-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1021)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1021) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1024) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x10000x15 : Shape := ⟨3, ![8, 10000, 15]⟩
abbrev S2x320000 : Shape := ⟨2, ![2, 320000]⟩
abbrev S25x15x32 : Shape := ⟨3, ![25, 15, 32]⟩
abbrev S32 : Shape := ⟨1, ![32]⟩
abbrev S25x32x64 : Shape := ⟨3, ![25, 32, 64]⟩
abbrev S64 : Shape := ⟨1, ![64]⟩
abbrev S640000x512 : Shape := ⟨2, ![640000, 512]⟩
abbrev S512 : Shape := ⟨1, ![512]⟩
abbrev S512x6 : Shape := ⟨2, ![512, 6]⟩
abbrev S6 : Shape := ⟨1, ![6]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S15 : Shape := ⟨1, ![15]⟩
abbrev S15x1 : Shape := ⟨2, ![15, 1]⟩
abbrev S1x15 : Shape := ⟨2, ![1, 15]⟩
abbrev S15x15 : Shape := ⟨2, ![15, 15]⟩
abbrev S10000x8x15 : Shape := ⟨3, ![10000, 8, 15]⟩
abbrev S1x15x32 : Shape := ⟨3, ![1, 15, 32]⟩
abbrev S15x32 : Shape := ⟨2, ![15, 32]⟩
abbrev S10000x8x32 : Shape := ⟨3, ![10000, 8, 32]⟩
abbrev S320000x8x15 : Shape := ⟨3, ![320000, 8, 15]⟩
abbrev S320000x1x1 : Shape := ⟨3, ![320000, 1, 1]⟩
abbrev S1x1x32 : Shape := ⟨3, ![1, 1, 32]⟩
abbrev S1x32x64 : Shape := ⟨3, ![1, 32, 64]⟩
abbrev S32x64 : Shape := ⟨2, ![32, 64]⟩
abbrev S10000x8x64 : Shape := ⟨3, ![10000, 8, 64]⟩
abbrev S320000x8x32 : Shape := ⟨3, ![320000, 8, 32]⟩
abbrev S1x1x64 : Shape := ⟨3, ![1, 1, 64]⟩
abbrev S8x10000x64 : Shape := ⟨3, ![8, 10000, 64]⟩
abbrev S8x640000 : Shape := ⟨2, ![8, 640000]⟩
abbrev S8x512 : Shape := ⟨2, ![8, 512]⟩
abbrev S8x5120 : Shape := ⟨2, ![8, 5120]⟩
abbrev S5120x512 : Shape := ⟨2, ![5120, 512]⟩
abbrev S1x512 : Shape := ⟨2, ![1, 512]⟩
abbrev S8x6 : Shape := ⟨2, ![8, 6]⟩
abbrev S1x6 : Shape := ⟨2, ![1, 6]⟩
abbrev S8 : Shape := ⟨1, ![8]⟩
abbrev S8x1 : Shape := ⟨2, ![8, 1]⟩

abbrev nBuf : Space → Nat
  | .hbm => 1253
  | .vmem => 6
  | .smem => 0
  | _ => 0

abbrev hbmTy0_0 (i : Nat) : BufTy := match i % 128 with
  | 0 => ⟨S8x10000x15, .f32⟩
  | 1 => ⟨S2x320000, .i32⟩
  | 2 => ⟨S25x15x32, .f32⟩
  | 3 => ⟨S32, .f32⟩
  | 4 => ⟨S25x32x64, .f32⟩
  | 5 => ⟨S64, .f32⟩
  | 6 => ⟨S640000x512, .f32⟩
  | 7 => ⟨S512, .f32⟩
  | 8 => ⟨S512x6, .f32⟩
  | 9 => ⟨S6, .f32⟩
  | 10 => ⟨S1x320000, .i32⟩
  | 11 => ⟨S320000, .i32⟩
  | 12 => ⟨S1x320000, .i32⟩
  | 13 => ⟨S320000, .i32⟩
  | 14 => ⟨S_, .f32⟩
  | 15 => ⟨S320000, .f32⟩
  | 16 => ⟨S_, .f32⟩
  | 17 => ⟨S10000, .f32⟩
  | 18 => ⟨S320000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S10000, .f32⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S15, .i32⟩
  | 52 => ⟨S15, .i32⟩
  | 53 => ⟨S15x1, .i32⟩
  | 54 => ⟨S1x15, .i32⟩
  | 55 => ⟨S15x15, .i32⟩
  | 56 => ⟨S15x15, .i32⟩
  | 57 => ⟨S15x15, .i32⟩
  | 58 => ⟨S15x15, .f32⟩
  | 59 => ⟨S_, .f32⟩
  | 60 => ⟨S15x15, .f32⟩
  | 61 => ⟨S15x15, .f32⟩
  | 62 => ⟨S_, .f32⟩
  | 63 => ⟨S15x15, .f32⟩
  | 64 => ⟨S15x15, .f32⟩
  | 65 => ⟨S15x15, .f32⟩
  | 66 => ⟨S15x15, .f32⟩
  | 67 => ⟨S8x10000x15, .f32⟩
  | 68 => ⟨S10000x8x15, .f32⟩
  | 69 => ⟨S1x15x32, .f32⟩
  | 70 => ⟨S15x32, .f32⟩
  | 71 => ⟨S10000x8x32, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x8x15, .f32⟩
  | 81 => ⟨S320000x1x1, .f32⟩
  | 82 => ⟨S320000x8x15, .f32⟩
  | 83 => ⟨S320000x8x15, .f32⟩
  | 84 => ⟨S_, .f32⟩
  | 85 => ⟨S10000x8x15, .f32⟩
  | 86 => ⟨S320000x1, .i32⟩
  | 87 => ⟨S10000x8x15, .f32⟩
  | 88 => ⟨S1x15x32, .f32⟩
  | 89 => ⟨S15x32, .f32⟩
  | 90 => ⟨S10000x8x32, .f32⟩
  | 91 => ⟨S10000x8x32, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x8x15, .f32⟩
  | 101 => ⟨S320000x1x1, .f32⟩
  | 102 => ⟨S320000x8x15, .f32⟩
  | 103 => ⟨S320000x8x15, .f32⟩
  | 104 => ⟨S_, .f32⟩
  | 105 => ⟨S10000x8x15, .f32⟩
  | 106 => ⟨S320000x1, .i32⟩
  | 107 => ⟨S10000x8x15, .f32⟩
  | 108 => ⟨S_, .f32⟩
  | 109 => ⟨S10000x8x15, .f32⟩
  | 110 => ⟨S10000x8x15, .f32⟩
  | 111 => ⟨S10000x8x15, .f32⟩
  | 112 => ⟨S1x15x32, .f32⟩
  | 113 => ⟨S15x32, .f32⟩
  | 114 => ⟨S10000x8x32, .f32⟩
  | 115 => ⟨S10000x8x32, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x8x15, .f32⟩
  | 125 => ⟨S320000x1x1, .f32⟩
  | 126 => ⟨S320000x8x15, .f32⟩
  | 127 => ⟨S320000x8x15, .f32⟩
  | _ => ⟨S8x10000x15, .f32⟩

abbrev hbmTy0_1 (i : Nat) : BufTy := match i % 128 with
  | 0 => ⟨S_, .f32⟩
  | 1 => ⟨S10000x8x15, .f32⟩
  | 2 => ⟨S320000x1, .i32⟩
  | 3 => ⟨S10000x8x15, .f32⟩
  | 4 => ⟨S_, .f32⟩
  | 5 => ⟨S10000x8x15, .f32⟩
  | 6 => ⟨S10000x8x15, .f32⟩
  | 7 => ⟨S10000x8x15, .f32⟩
  | 8 => ⟨S1x15x32, .f32⟩
  | 9 => ⟨S15x32, .f32⟩
  | 10 => ⟨S10000x8x32, .f32⟩
  | 11 => ⟨S10000x8x32, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8x15, .f32⟩
  | 21 => ⟨S320000x1x1, .f32⟩
  | 22 => ⟨S320000x8x15, .f32⟩
  | 23 => ⟨S320000x8x15, .f32⟩
  | 24 => ⟨S_, .f32⟩
  | 25 => ⟨S10000x8x15, .f32⟩
  | 26 => ⟨S320000x1, .i32⟩
  | 27 => ⟨S10000x8x15, .f32⟩
  | 28 => ⟨S_, .f32⟩
  | 29 => ⟨S10000x8x15, .f32⟩
  | 30 => ⟨S10000x8x15, .f32⟩
  | 31 => ⟨S10000x8x15, .f32⟩
  | 32 => ⟨S1x15x32, .f32⟩
  | 33 => ⟨S15x32, .f32⟩
  | 34 => ⟨S10000x8x32, .f32⟩
  | 35 => ⟨S10000x8x32, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x8x15, .f32⟩
  | 45 => ⟨S320000x1x1, .f32⟩
  | 46 => ⟨S320000x8x15, .f32⟩
  | 47 => ⟨S320000x8x15, .f32⟩
  | 48 => ⟨S_, .f32⟩
  | 49 => ⟨S10000x8x15, .f32⟩
  | 50 => ⟨S320000x1, .i32⟩
  | 51 => ⟨S10000x8x15, .f32⟩
  | 52 => ⟨S_, .f32⟩
  | 53 => ⟨S10000x8x15, .f32⟩
  | 54 => ⟨S10000x8x15, .f32⟩
  | 55 => ⟨S10000x8x15, .f32⟩
  | 56 => ⟨S1x15x32, .f32⟩
  | 57 => ⟨S15x32, .f32⟩
  | 58 => ⟨S10000x8x32, .f32⟩
  | 59 => ⟨S10000x8x32, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x8x15, .f32⟩
  | 69 => ⟨S320000x1x1, .f32⟩
  | 70 => ⟨S320000x8x15, .f32⟩
  | 71 => ⟨S320000x8x15, .f32⟩
  | 72 => ⟨S_, .f32⟩
  | 73 => ⟨S10000x8x15, .f32⟩
  | 74 => ⟨S320000x1, .i32⟩
  | 75 => ⟨S10000x8x15, .f32⟩
  | 76 => ⟨S_, .f32⟩
  | 77 => ⟨S10000x8x15, .f32⟩
  | 78 => ⟨S10000x8x15, .f32⟩
  | 79 => ⟨S10000x8x15, .f32⟩
  | 80 => ⟨S1x15x32, .f32⟩
  | 81 => ⟨S15x32, .f32⟩
  | 82 => ⟨S10000x8x32, .f32⟩
  | 83 => ⟨S10000x8x32, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x8x15, .f32⟩
  | 93 => ⟨S320000x1x1, .f32⟩
  | 94 => ⟨S320000x8x15, .f32⟩
  | 95 => ⟨S320000x8x15, .f32⟩
  | 96 => ⟨S_, .f32⟩
  | 97 => ⟨S10000x8x15, .f32⟩
  | 98 => ⟨S320000x1, .i32⟩
  | 99 => ⟨S10000x8x15, .f32⟩
  | 100 => ⟨S_, .f32⟩
  | 101 => ⟨S10000x8x15, .f32⟩
  | 102 => ⟨S10000x8x15, .f32⟩
  | 103 => ⟨S10000x8x15, .f32⟩
  | 104 => ⟨S1x15x32, .f32⟩
  | 105 => ⟨S15x32, .f32⟩
  | 106 => ⟨S10000x8x32, .f32⟩
  | 107 => ⟨S10000x8x32, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x8x15, .f32⟩
  | 117 => ⟨S320000x1x1, .f32⟩
  | 118 => ⟨S320000x8x15, .f32⟩
  | 119 => ⟨S320000x8x15, .f32⟩
  | 120 => ⟨S_, .f32⟩
  | 121 => ⟨S10000x8x15, .f32⟩
  | 122 => ⟨S320000x1, .i32⟩
  | 123 => ⟨S10000x8x15, .f32⟩
  | 124 => ⟨S_, .f32⟩
  | 125 => ⟨S10000x8x15, .f32⟩
  | 126 => ⟨S10000x8x15, .f32⟩
  | 127 => ⟨S10000x8x15, .f32⟩
  | _ => ⟨S8x10000x15, .f32⟩

abbrev hbmTy0_2 (i : Nat) : BufTy := match i % 128 with
  | 0 => ⟨S1x15x32, .f32⟩
  | 1 => ⟨S15x32, .f32⟩
  | 2 => ⟨S10000x8x32, .f32⟩
  | 3 => ⟨S10000x8x32, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x8x15, .f32⟩
  | 13 => ⟨S320000x1x1, .f32⟩
  | 14 => ⟨S320000x8x15, .f32⟩
  | 15 => ⟨S320000x8x15, .f32⟩
  | 16 => ⟨S_, .f32⟩
  | 17 => ⟨S10000x8x15, .f32⟩
  | 18 => ⟨S320000x1, .i32⟩
  | 19 => ⟨S10000x8x15, .f32⟩
  | 20 => ⟨S_, .f32⟩
  | 21 => ⟨S10000x8x15, .f32⟩
  | 22 => ⟨S10000x8x15, .f32⟩
  | 23 => ⟨S10000x8x15, .f32⟩
  | 24 => ⟨S1x15x32, .f32⟩
  | 25 => ⟨S15x32, .f32⟩
  | 26 => ⟨S10000x8x32, .f32⟩
  | 27 => ⟨S10000x8x32, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x8x15, .f32⟩
  | 37 => ⟨S320000x1x1, .f32⟩
  | 38 => ⟨S320000x8x15, .f32⟩
  | 39 => ⟨S320000x8x15, .f32⟩
  | 40 => ⟨S_, .f32⟩
  | 41 => ⟨S10000x8x15, .f32⟩
  | 42 => ⟨S320000x1, .i32⟩
  | 43 => ⟨S10000x8x15, .f32⟩
  | 44 => ⟨S_, .f32⟩
  | 45 => ⟨S10000x8x15, .f32⟩
  | 46 => ⟨S10000x8x15, .f32⟩
  | 47 => ⟨S10000x8x15, .f32⟩
  | 48 => ⟨S1x15x32, .f32⟩
  | 49 => ⟨S15x32, .f32⟩
  | 50 => ⟨S10000x8x32, .f32⟩
  | 51 => ⟨S10000x8x32, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x8x15, .f32⟩
  | 61 => ⟨S320000x1x1, .f32⟩
  | 62 => ⟨S320000x8x15, .f32⟩
  | 63 => ⟨S320000x8x15, .f32⟩
  | 64 => ⟨S_, .f32⟩
  | 65 => ⟨S10000x8x15, .f32⟩
  | 66 => ⟨S320000x1, .i32⟩
  | 67 => ⟨S10000x8x15, .f32⟩
  | 68 => ⟨S_, .f32⟩
  | 69 => ⟨S10000x8x15, .f32⟩
  | 70 => ⟨S10000x8x15, .f32⟩
  | 71 => ⟨S10000x8x15, .f32⟩
  | 72 => ⟨S1x15x32, .f32⟩
  | 73 => ⟨S15x32, .f32⟩
  | 74 => ⟨S10000x8x32, .f32⟩
  | 75 => ⟨S10000x8x32, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x8x15, .f32⟩
  | 85 => ⟨S320000x1x1, .f32⟩
  | 86 => ⟨S320000x8x15, .f32⟩
  | 87 => ⟨S320000x8x15, .f32⟩
  | 88 => ⟨S_, .f32⟩
  | 89 => ⟨S10000x8x15, .f32⟩
  | 90 => ⟨S320000x1, .i32⟩
  | 91 => ⟨S10000x8x15, .f32⟩
  | 92 => ⟨S_, .f32⟩
  | 93 => ⟨S10000x8x15, .f32⟩
  | 94 => ⟨S10000x8x15, .f32⟩
  | 95 => ⟨S10000x8x15, .f32⟩
  | 96 => ⟨S1x15x32, .f32⟩
  | 97 => ⟨S15x32, .f32⟩
  | 98 => ⟨S10000x8x32, .f32⟩
  | 99 => ⟨S10000x8x32, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x8x15, .f32⟩
  | 109 => ⟨S320000x1x1, .f32⟩
  | 110 => ⟨S320000x8x15, .f32⟩
  | 111 => ⟨S320000x8x15, .f32⟩
  | 112 => ⟨S_, .f32⟩
  | 113 => ⟨S10000x8x15, .f32⟩
  | 114 => ⟨S320000x1, .i32⟩
  | 115 => ⟨S10000x8x15, .f32⟩
  | 116 => ⟨S_, .f32⟩
  | 117 => ⟨S10000x8x15, .f32⟩
  | 118 => ⟨S10000x8x15, .f32⟩
  | 119 => ⟨S10000x8x15, .f32⟩
  | 120 => ⟨S1x15x32, .f32⟩
  | 121 => ⟨S15x32, .f32⟩
  | 122 => ⟨S10000x8x32, .f32⟩
  | 123 => ⟨S10000x8x32, .f32⟩
  | 124 => ⟨S_, .i32⟩
  | 125 => ⟨S320000, .i32⟩
  | 126 => ⟨S320000, .i1⟩
  | 127 => ⟨S_, .i32⟩
  | _ => ⟨S8x10000x15, .f32⟩

abbrev hbmTy0_3 (i : Nat) : BufTy := match i % 128 with
  | 0 => ⟨S320000, .i32⟩
  | 1 => ⟨S320000, .i32⟩
  | 2 => ⟨S320000, .i32⟩
  | 3 => ⟨S320000x1, .i32⟩
  | 4 => ⟨S320000x8x15, .f32⟩
  | 5 => ⟨S320000x1x1, .f32⟩
  | 6 => ⟨S320000x8x15, .f32⟩
  | 7 => ⟨S320000x8x15, .f32⟩
  | 8 => ⟨S_, .f32⟩
  | 9 => ⟨S10000x8x15, .f32⟩
  | 10 => ⟨S320000x1, .i32⟩
  | 11 => ⟨S10000x8x15, .f32⟩
  | 12 => ⟨S_, .f32⟩
  | 13 => ⟨S10000x8x15, .f32⟩
  | 14 => ⟨S10000x8x15, .f32⟩
  | 15 => ⟨S10000x8x15, .f32⟩
  | 16 => ⟨S1x15x32, .f32⟩
  | 17 => ⟨S15x32, .f32⟩
  | 18 => ⟨S10000x8x32, .f32⟩
  | 19 => ⟨S10000x8x32, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x8x15, .f32⟩
  | 29 => ⟨S320000x1x1, .f32⟩
  | 30 => ⟨S320000x8x15, .f32⟩
  | 31 => ⟨S320000x8x15, .f32⟩
  | 32 => ⟨S_, .f32⟩
  | 33 => ⟨S10000x8x15, .f32⟩
  | 34 => ⟨S320000x1, .i32⟩
  | 35 => ⟨S10000x8x15, .f32⟩
  | 36 => ⟨S_, .f32⟩
  | 37 => ⟨S10000x8x15, .f32⟩
  | 38 => ⟨S10000x8x15, .f32⟩
  | 39 => ⟨S10000x8x15, .f32⟩
  | 40 => ⟨S1x15x32, .f32⟩
  | 41 => ⟨S15x32, .f32⟩
  | 42 => ⟨S10000x8x32, .f32⟩
  | 43 => ⟨S10000x8x32, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x8x15, .f32⟩
  | 53 => ⟨S320000x1x1, .f32⟩
  | 54 => ⟨S320000x8x15, .f32⟩
  | 55 => ⟨S320000x8x15, .f32⟩
  | 56 => ⟨S_, .f32⟩
  | 57 => ⟨S10000x8x15, .f32⟩
  | 58 => ⟨S320000x1, .i32⟩
  | 59 => ⟨S10000x8x15, .f32⟩
  | 60 => ⟨S_, .f32⟩
  | 61 => ⟨S10000x8x15, .f32⟩
  | 62 => ⟨S10000x8x15, .f32⟩
  | 63 => ⟨S10000x8x15, .f32⟩
  | 64 => ⟨S1x15x32, .f32⟩
  | 65 => ⟨S15x32, .f32⟩
  | 66 => ⟨S10000x8x32, .f32⟩
  | 67 => ⟨S10000x8x32, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x8x15, .f32⟩
  | 77 => ⟨S320000x1x1, .f32⟩
  | 78 => ⟨S320000x8x15, .f32⟩
  | 79 => ⟨S320000x8x15, .f32⟩
  | 80 => ⟨S_, .f32⟩
  | 81 => ⟨S10000x8x15, .f32⟩
  | 82 => ⟨S320000x1, .i32⟩
  | 83 => ⟨S10000x8x15, .f32⟩
  | 84 => ⟨S_, .f32⟩
  | 85 => ⟨S10000x8x15, .f32⟩
  | 86 => ⟨S10000x8x15, .f32⟩
  | 87 => ⟨S10000x8x15, .f32⟩
  | 88 => ⟨S1x15x32, .f32⟩
  | 89 => ⟨S15x32, .f32⟩
  | 90 => ⟨S10000x8x32, .f32⟩
  | 91 => ⟨S10000x8x32, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x8x15, .f32⟩
  | 101 => ⟨S320000x1x1, .f32⟩
  | 102 => ⟨S320000x8x15, .f32⟩
  | 103 => ⟨S320000x8x15, .f32⟩
  | 104 => ⟨S_, .f32⟩
  | 105 => ⟨S10000x8x15, .f32⟩
  | 106 => ⟨S320000x1, .i32⟩
  | 107 => ⟨S10000x8x15, .f32⟩
  | 108 => ⟨S_, .f32⟩
  | 109 => ⟨S10000x8x15, .f32⟩
  | 110 => ⟨S10000x8x15, .f32⟩
  | 111 => ⟨S10000x8x15, .f32⟩
  | 112 => ⟨S1x15x32, .f32⟩
  | 113 => ⟨S15x32, .f32⟩
  | 114 => ⟨S10000x8x32, .f32⟩
  | 115 => ⟨S10000x8x32, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x8x15, .f32⟩
  | 125 => ⟨S320000x1x1, .f32⟩
  | 126 => ⟨S320000x8x15, .f32⟩
  | 127 => ⟨S320000x8x15, .f32⟩
  | _ => ⟨S8x10000x15, .f32⟩

abbrev hbmTy0_4 (i : Nat) : BufTy := match i % 128 with
  | 0 => ⟨S_, .f32⟩
  | 1 => ⟨S10000x8x15, .f32⟩
  | 2 => ⟨S320000x1, .i32⟩
  | 3 => ⟨S10000x8x15, .f32⟩
  | 4 => ⟨S_, .f32⟩
  | 5 => ⟨S10000x8x15, .f32⟩
  | 6 => ⟨S10000x8x15, .f32⟩
  | 7 => ⟨S10000x8x15, .f32⟩
  | 8 => ⟨S1x15x32, .f32⟩
  | 9 => ⟨S15x32, .f32⟩
  | 10 => ⟨S10000x8x32, .f32⟩
  | 11 => ⟨S10000x8x32, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8x15, .f32⟩
  | 21 => ⟨S320000x1x1, .f32⟩
  | 22 => ⟨S320000x8x15, .f32⟩
  | 23 => ⟨S320000x8x15, .f32⟩
  | 24 => ⟨S_, .f32⟩
  | 25 => ⟨S10000x8x15, .f32⟩
  | 26 => ⟨S320000x1, .i32⟩
  | 27 => ⟨S10000x8x15, .f32⟩
  | 28 => ⟨S_, .f32⟩
  | 29 => ⟨S10000x8x15, .f32⟩
  | 30 => ⟨S10000x8x15, .f32⟩
  | 31 => ⟨S10000x8x15, .f32⟩
  | 32 => ⟨S1x15x32, .f32⟩
  | 33 => ⟨S15x32, .f32⟩
  | 34 => ⟨S10000x8x32, .f32⟩
  | 35 => ⟨S10000x8x32, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x8x15, .f32⟩
  | 45 => ⟨S320000x1x1, .f32⟩
  | 46 => ⟨S320000x8x15, .f32⟩
  | 47 => ⟨S320000x8x15, .f32⟩
  | 48 => ⟨S_, .f32⟩
  | 49 => ⟨S10000x8x15, .f32⟩
  | 50 => ⟨S320000x1, .i32⟩
  | 51 => ⟨S10000x8x15, .f32⟩
  | 52 => ⟨S_, .f32⟩
  | 53 => ⟨S10000x8x15, .f32⟩
  | 54 => ⟨S10000x8x15, .f32⟩
  | 55 => ⟨S10000x8x15, .f32⟩
  | 56 => ⟨S1x15x32, .f32⟩
  | 57 => ⟨S15x32, .f32⟩
  | 58 => ⟨S10000x8x32, .f32⟩
  | 59 => ⟨S10000x8x32, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x8x15, .f32⟩
  | 69 => ⟨S320000x1x1, .f32⟩
  | 70 => ⟨S320000x8x15, .f32⟩
  | 71 => ⟨S320000x8x15, .f32⟩
  | 72 => ⟨S_, .f32⟩
  | 73 => ⟨S10000x8x15, .f32⟩
  | 74 => ⟨S320000x1, .i32⟩
  | 75 => ⟨S10000x8x15, .f32⟩
  | 76 => ⟨S_, .f32⟩
  | 77 => ⟨S10000x8x15, .f32⟩
  | 78 => ⟨S10000x8x15, .f32⟩
  | 79 => ⟨S10000x8x15, .f32⟩
  | 80 => ⟨S1x15x32, .f32⟩
  | 81 => ⟨S15x32, .f32⟩
  | 82 => ⟨S10000x8x32, .f32⟩
  | 83 => ⟨S10000x8x32, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x8x15, .f32⟩
  | 93 => ⟨S320000x1x1, .f32⟩
  | 94 => ⟨S320000x8x15, .f32⟩
  | 95 => ⟨S320000x8x15, .f32⟩
  | 96 => ⟨S_, .f32⟩
  | 97 => ⟨S10000x8x15, .f32⟩
  | 98 => ⟨S320000x1, .i32⟩
  | 99 => ⟨S10000x8x15, .f32⟩
  | 100 => ⟨S_, .f32⟩
  | 101 => ⟨S10000x8x15, .f32⟩
  | 102 => ⟨S10000x8x15, .f32⟩
  | 103 => ⟨S10000x8x15, .f32⟩
  | 104 => ⟨S1x15x32, .f32⟩
  | 105 => ⟨S15x32, .f32⟩
  | 106 => ⟨S10000x8x32, .f32⟩
  | 107 => ⟨S10000x8x32, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x8x15, .f32⟩
  | 117 => ⟨S320000x1x1, .f32⟩
  | 118 => ⟨S320000x8x15, .f32⟩
  | 119 => ⟨S320000x8x15, .f32⟩
  | 120 => ⟨S_, .f32⟩
  | 121 => ⟨S10000x8x15, .f32⟩
  | 122 => ⟨S320000x1, .i32⟩
  | 123 => ⟨S10000x8x15, .f32⟩
  | 124 => ⟨S_, .f32⟩
  | 125 => ⟨S10000x8x15, .f32⟩
  | 126 => ⟨S10000x8x15, .f32⟩
  | 127 => ⟨S10000x8x15, .f32⟩
  | _ => ⟨S8x10000x15, .f32⟩

abbrev hbmTy0_5 (i : Nat) : BufTy := match i % 128 with
  | 0 => ⟨S1x15x32, .f32⟩
  | 1 => ⟨S15x32, .f32⟩
  | 2 => ⟨S10000x8x32, .f32⟩
  | 3 => ⟨S10000x8x32, .f32⟩
  | 4 => ⟨S1x1x32, .f32⟩
  | 5 => ⟨S10000x8x32, .f32⟩
  | 6 => ⟨S10000x8x32, .f32⟩
  | 7 => ⟨S_, .f32⟩
  | 8 => ⟨S10000x8x32, .f32⟩
  | 9 => ⟨S10000x8x32, .f32⟩
  | 10 => ⟨S1x32x64, .f32⟩
  | 11 => ⟨S32x64, .f32⟩
  | 12 => ⟨S10000x8x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x8x32, .f32⟩
  | 22 => ⟨S320000x1x1, .f32⟩
  | 23 => ⟨S320000x8x32, .f32⟩
  | 24 => ⟨S320000x8x32, .f32⟩
  | 25 => ⟨S_, .f32⟩
  | 26 => ⟨S10000x8x32, .f32⟩
  | 27 => ⟨S320000x1, .i32⟩
  | 28 => ⟨S10000x8x32, .f32⟩
  | 29 => ⟨S1x32x64, .f32⟩
  | 30 => ⟨S32x64, .f32⟩
  | 31 => ⟨S10000x8x64, .f32⟩
  | 32 => ⟨S10000x8x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x8x32, .f32⟩
  | 42 => ⟨S320000x1x1, .f32⟩
  | 43 => ⟨S320000x8x32, .f32⟩
  | 44 => ⟨S320000x8x32, .f32⟩
  | 45 => ⟨S_, .f32⟩
  | 46 => ⟨S10000x8x32, .f32⟩
  | 47 => ⟨S320000x1, .i32⟩
  | 48 => ⟨S10000x8x32, .f32⟩
  | 49 => ⟨S_, .f32⟩
  | 50 => ⟨S10000x8x32, .f32⟩
  | 51 => ⟨S10000x8x32, .f32⟩
  | 52 => ⟨S10000x8x32, .f32⟩
  | 53 => ⟨S1x32x64, .f32⟩
  | 54 => ⟨S32x64, .f32⟩
  | 55 => ⟨S10000x8x64, .f32⟩
  | 56 => ⟨S10000x8x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x8x32, .f32⟩
  | 66 => ⟨S320000x1x1, .f32⟩
  | 67 => ⟨S320000x8x32, .f32⟩
  | 68 => ⟨S320000x8x32, .f32⟩
  | 69 => ⟨S_, .f32⟩
  | 70 => ⟨S10000x8x32, .f32⟩
  | 71 => ⟨S320000x1, .i32⟩
  | 72 => ⟨S10000x8x32, .f32⟩
  | 73 => ⟨S_, .f32⟩
  | 74 => ⟨S10000x8x32, .f32⟩
  | 75 => ⟨S10000x8x32, .f32⟩
  | 76 => ⟨S10000x8x32, .f32⟩
  | 77 => ⟨S1x32x64, .f32⟩
  | 78 => ⟨S32x64, .f32⟩
  | 79 => ⟨S10000x8x64, .f32⟩
  | 80 => ⟨S10000x8x64, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x8x32, .f32⟩
  | 90 => ⟨S320000x1x1, .f32⟩
  | 91 => ⟨S320000x8x32, .f32⟩
  | 92 => ⟨S320000x8x32, .f32⟩
  | 93 => ⟨S_, .f32⟩
  | 94 => ⟨S10000x8x32, .f32⟩
  | 95 => ⟨S320000x1, .i32⟩
  | 96 => ⟨S10000x8x32, .f32⟩
  | 97 => ⟨S_, .f32⟩
  | 98 => ⟨S10000x8x32, .f32⟩
  | 99 => ⟨S10000x8x32, .f32⟩
  | 100 => ⟨S10000x8x32, .f32⟩
  | 101 => ⟨S1x32x64, .f32⟩
  | 102 => ⟨S32x64, .f32⟩
  | 103 => ⟨S10000x8x64, .f32⟩
  | 104 => ⟨S10000x8x64, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x8x32, .f32⟩
  | 114 => ⟨S320000x1x1, .f32⟩
  | 115 => ⟨S320000x8x32, .f32⟩
  | 116 => ⟨S320000x8x32, .f32⟩
  | 117 => ⟨S_, .f32⟩
  | 118 => ⟨S10000x8x32, .f32⟩
  | 119 => ⟨S320000x1, .i32⟩
  | 120 => ⟨S10000x8x32, .f32⟩
  | 121 => ⟨S_, .f32⟩
  | 122 => ⟨S10000x8x32, .f32⟩
  | 123 => ⟨S10000x8x32, .f32⟩
  | 124 => ⟨S10000x8x32, .f32⟩
  | 125 => ⟨S1x32x64, .f32⟩
  | 126 => ⟨S32x64, .f32⟩
  | 127 => ⟨S10000x8x64, .f32⟩
  | _ => ⟨S8x10000x15, .f32⟩

abbrev hbmTy0_6 (i : Nat) : BufTy := match i % 128 with
  | 0 => ⟨S10000x8x64, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8x32, .f32⟩
  | 10 => ⟨S320000x1x1, .f32⟩
  | 11 => ⟨S320000x8x32, .f32⟩
  | 12 => ⟨S320000x8x32, .f32⟩
  | 13 => ⟨S_, .f32⟩
  | 14 => ⟨S10000x8x32, .f32⟩
  | 15 => ⟨S320000x1, .i32⟩
  | 16 => ⟨S10000x8x32, .f32⟩
  | 17 => ⟨S_, .f32⟩
  | 18 => ⟨S10000x8x32, .f32⟩
  | 19 => ⟨S10000x8x32, .f32⟩
  | 20 => ⟨S10000x8x32, .f32⟩
  | 21 => ⟨S1x32x64, .f32⟩
  | 22 => ⟨S32x64, .f32⟩
  | 23 => ⟨S10000x8x64, .f32⟩
  | 24 => ⟨S10000x8x64, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x8x32, .f32⟩
  | 34 => ⟨S320000x1x1, .f32⟩
  | 35 => ⟨S320000x8x32, .f32⟩
  | 36 => ⟨S320000x8x32, .f32⟩
  | 37 => ⟨S_, .f32⟩
  | 38 => ⟨S10000x8x32, .f32⟩
  | 39 => ⟨S320000x1, .i32⟩
  | 40 => ⟨S10000x8x32, .f32⟩
  | 41 => ⟨S_, .f32⟩
  | 42 => ⟨S10000x8x32, .f32⟩
  | 43 => ⟨S10000x8x32, .f32⟩
  | 44 => ⟨S10000x8x32, .f32⟩
  | 45 => ⟨S1x32x64, .f32⟩
  | 46 => ⟨S32x64, .f32⟩
  | 47 => ⟨S10000x8x64, .f32⟩
  | 48 => ⟨S10000x8x64, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8x32, .f32⟩
  | 58 => ⟨S320000x1x1, .f32⟩
  | 59 => ⟨S320000x8x32, .f32⟩
  | 60 => ⟨S320000x8x32, .f32⟩
  | 61 => ⟨S_, .f32⟩
  | 62 => ⟨S10000x8x32, .f32⟩
  | 63 => ⟨S320000x1, .i32⟩
  | 64 => ⟨S10000x8x32, .f32⟩
  | 65 => ⟨S_, .f32⟩
  | 66 => ⟨S10000x8x32, .f32⟩
  | 67 => ⟨S10000x8x32, .f32⟩
  | 68 => ⟨S10000x8x32, .f32⟩
  | 69 => ⟨S1x32x64, .f32⟩
  | 70 => ⟨S32x64, .f32⟩
  | 71 => ⟨S10000x8x64, .f32⟩
  | 72 => ⟨S10000x8x64, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x8x32, .f32⟩
  | 82 => ⟨S320000x1x1, .f32⟩
  | 83 => ⟨S320000x8x32, .f32⟩
  | 84 => ⟨S320000x8x32, .f32⟩
  | 85 => ⟨S_, .f32⟩
  | 86 => ⟨S10000x8x32, .f32⟩
  | 87 => ⟨S320000x1, .i32⟩
  | 88 => ⟨S10000x8x32, .f32⟩
  | 89 => ⟨S_, .f32⟩
  | 90 => ⟨S10000x8x32, .f32⟩
  | 91 => ⟨S10000x8x32, .f32⟩
  | 92 => ⟨S10000x8x32, .f32⟩
  | 93 => ⟨S1x32x64, .f32⟩
  | 94 => ⟨S32x64, .f32⟩
  | 95 => ⟨S10000x8x64, .f32⟩
  | 96 => ⟨S10000x8x64, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x8x32, .f32⟩
  | 106 => ⟨S320000x1x1, .f32⟩
  | 107 => ⟨S320000x8x32, .f32⟩
  | 108 => ⟨S320000x8x32, .f32⟩
  | 109 => ⟨S_, .f32⟩
  | 110 => ⟨S10000x8x32, .f32⟩
  | 111 => ⟨S320000x1, .i32⟩
  | 112 => ⟨S10000x8x32, .f32⟩
  | 113 => ⟨S_, .f32⟩
  | 114 => ⟨S10000x8x32, .f32⟩
  | 115 => ⟨S10000x8x32, .f32⟩
  | 116 => ⟨S10000x8x32, .f32⟩
  | 117 => ⟨S1x32x64, .f32⟩
  | 118 => ⟨S32x64, .f32⟩
  | 119 => ⟨S10000x8x64, .f32⟩
  | 120 => ⟨S10000x8x64, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S8x10000x15, .f32⟩

abbrev hbmTy0_7 (i : Nat) : BufTy := match i % 128 with
  | 0 => ⟨S320000x1, .i32⟩
  | 1 => ⟨S320000x8x32, .f32⟩
  | 2 => ⟨S320000x1x1, .f32⟩
  | 3 => ⟨S320000x8x32, .f32⟩
  | 4 => ⟨S320000x8x32, .f32⟩
  | 5 => ⟨S_, .f32⟩
  | 6 => ⟨S10000x8x32, .f32⟩
  | 7 => ⟨S320000x1, .i32⟩
  | 8 => ⟨S10000x8x32, .f32⟩
  | 9 => ⟨S_, .f32⟩
  | 10 => ⟨S10000x8x32, .f32⟩
  | 11 => ⟨S10000x8x32, .f32⟩
  | 12 => ⟨S10000x8x32, .f32⟩
  | 13 => ⟨S1x32x64, .f32⟩
  | 14 => ⟨S32x64, .f32⟩
  | 15 => ⟨S10000x8x64, .f32⟩
  | 16 => ⟨S10000x8x64, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x8x32, .f32⟩
  | 26 => ⟨S320000x1x1, .f32⟩
  | 27 => ⟨S320000x8x32, .f32⟩
  | 28 => ⟨S320000x8x32, .f32⟩
  | 29 => ⟨S_, .f32⟩
  | 30 => ⟨S10000x8x32, .f32⟩
  | 31 => ⟨S320000x1, .i32⟩
  | 32 => ⟨S10000x8x32, .f32⟩
  | 33 => ⟨S_, .f32⟩
  | 34 => ⟨S10000x8x32, .f32⟩
  | 35 => ⟨S10000x8x32, .f32⟩
  | 36 => ⟨S10000x8x32, .f32⟩
  | 37 => ⟨S1x32x64, .f32⟩
  | 38 => ⟨S32x64, .f32⟩
  | 39 => ⟨S10000x8x64, .f32⟩
  | 40 => ⟨S10000x8x64, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x8x32, .f32⟩
  | 50 => ⟨S320000x1x1, .f32⟩
  | 51 => ⟨S320000x8x32, .f32⟩
  | 52 => ⟨S320000x8x32, .f32⟩
  | 53 => ⟨S_, .f32⟩
  | 54 => ⟨S10000x8x32, .f32⟩
  | 55 => ⟨S320000x1, .i32⟩
  | 56 => ⟨S10000x8x32, .f32⟩
  | 57 => ⟨S_, .f32⟩
  | 58 => ⟨S10000x8x32, .f32⟩
  | 59 => ⟨S10000x8x32, .f32⟩
  | 60 => ⟨S10000x8x32, .f32⟩
  | 61 => ⟨S1x32x64, .f32⟩
  | 62 => ⟨S32x64, .f32⟩
  | 63 => ⟨S10000x8x64, .f32⟩
  | 64 => ⟨S10000x8x64, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x8x32, .f32⟩
  | 74 => ⟨S320000x1x1, .f32⟩
  | 75 => ⟨S320000x8x32, .f32⟩
  | 76 => ⟨S320000x8x32, .f32⟩
  | 77 => ⟨S_, .f32⟩
  | 78 => ⟨S10000x8x32, .f32⟩
  | 79 => ⟨S320000x1, .i32⟩
  | 80 => ⟨S10000x8x32, .f32⟩
  | 81 => ⟨S_, .f32⟩
  | 82 => ⟨S10000x8x32, .f32⟩
  | 83 => ⟨S10000x8x32, .f32⟩
  | 84 => ⟨S10000x8x32, .f32⟩
  | 85 => ⟨S1x32x64, .f32⟩
  | 86 => ⟨S32x64, .f32⟩
  | 87 => ⟨S10000x8x64, .f32⟩
  | 88 => ⟨S10000x8x64, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x8x32, .f32⟩
  | 98 => ⟨S320000x1x1, .f32⟩
  | 99 => ⟨S320000x8x32, .f32⟩
  | 100 => ⟨S320000x8x32, .f32⟩
  | 101 => ⟨S_, .f32⟩
  | 102 => ⟨S10000x8x32, .f32⟩
  | 103 => ⟨S320000x1, .i32⟩
  | 104 => ⟨S10000x8x32, .f32⟩
  | 105 => ⟨S_, .f32⟩
  | 106 => ⟨S10000x8x32, .f32⟩
  | 107 => ⟨S10000x8x32, .f32⟩
  | 108 => ⟨S10000x8x32, .f32⟩
  | 109 => ⟨S1x32x64, .f32⟩
  | 110 => ⟨S32x64, .f32⟩
  | 111 => ⟨S10000x8x64, .f32⟩
  | 112 => ⟨S10000x8x64, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x8x32, .f32⟩
  | 122 => ⟨S320000x1x1, .f32⟩
  | 123 => ⟨S320000x8x32, .f32⟩
  | 124 => ⟨S320000x8x32, .f32⟩
  | 125 => ⟨S_, .f32⟩
  | 126 => ⟨S10000x8x32, .f32⟩
  | 127 => ⟨S320000x1, .i32⟩
  | _ => ⟨S8x10000x15, .f32⟩

abbrev hbmTy0_8 (i : Nat) : BufTy := match i % 128 with
  | 0 => ⟨S10000x8x32, .f32⟩
  | 1 => ⟨S_, .f32⟩
  | 2 => ⟨S10000x8x32, .f32⟩
  | 3 => ⟨S10000x8x32, .f32⟩
  | 4 => ⟨S10000x8x32, .f32⟩
  | 5 => ⟨S1x32x64, .f32⟩
  | 6 => ⟨S32x64, .f32⟩
  | 7 => ⟨S10000x8x64, .f32⟩
  | 8 => ⟨S10000x8x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x8x32, .f32⟩
  | 18 => ⟨S320000x1x1, .f32⟩
  | 19 => ⟨S320000x8x32, .f32⟩
  | 20 => ⟨S320000x8x32, .f32⟩
  | 21 => ⟨S_, .f32⟩
  | 22 => ⟨S10000x8x32, .f32⟩
  | 23 => ⟨S320000x1, .i32⟩
  | 24 => ⟨S10000x8x32, .f32⟩
  | 25 => ⟨S_, .f32⟩
  | 26 => ⟨S10000x8x32, .f32⟩
  | 27 => ⟨S10000x8x32, .f32⟩
  | 28 => ⟨S10000x8x32, .f32⟩
  | 29 => ⟨S1x32x64, .f32⟩
  | 30 => ⟨S32x64, .f32⟩
  | 31 => ⟨S10000x8x64, .f32⟩
  | 32 => ⟨S10000x8x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x8x32, .f32⟩
  | 42 => ⟨S320000x1x1, .f32⟩
  | 43 => ⟨S320000x8x32, .f32⟩
  | 44 => ⟨S320000x8x32, .f32⟩
  | 45 => ⟨S_, .f32⟩
  | 46 => ⟨S10000x8x32, .f32⟩
  | 47 => ⟨S320000x1, .i32⟩
  | 48 => ⟨S10000x8x32, .f32⟩
  | 49 => ⟨S_, .f32⟩
  | 50 => ⟨S10000x8x32, .f32⟩
  | 51 => ⟨S10000x8x32, .f32⟩
  | 52 => ⟨S10000x8x32, .f32⟩
  | 53 => ⟨S1x32x64, .f32⟩
  | 54 => ⟨S32x64, .f32⟩
  | 55 => ⟨S10000x8x64, .f32⟩
  | 56 => ⟨S10000x8x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x8x32, .f32⟩
  | 66 => ⟨S320000x1x1, .f32⟩
  | 67 => ⟨S320000x8x32, .f32⟩
  | 68 => ⟨S320000x8x32, .f32⟩
  | 69 => ⟨S_, .f32⟩
  | 70 => ⟨S10000x8x32, .f32⟩
  | 71 => ⟨S320000x1, .i32⟩
  | 72 => ⟨S10000x8x32, .f32⟩
  | 73 => ⟨S_, .f32⟩
  | 74 => ⟨S10000x8x32, .f32⟩
  | 75 => ⟨S10000x8x32, .f32⟩
  | 76 => ⟨S10000x8x32, .f32⟩
  | 77 => ⟨S1x32x64, .f32⟩
  | 78 => ⟨S32x64, .f32⟩
  | 79 => ⟨S10000x8x64, .f32⟩
  | 80 => ⟨S10000x8x64, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x8x32, .f32⟩
  | 90 => ⟨S320000x1x1, .f32⟩
  | 91 => ⟨S320000x8x32, .f32⟩
  | 92 => ⟨S320000x8x32, .f32⟩
  | 93 => ⟨S_, .f32⟩
  | 94 => ⟨S10000x8x32, .f32⟩
  | 95 => ⟨S320000x1, .i32⟩
  | 96 => ⟨S10000x8x32, .f32⟩
  | 97 => ⟨S_, .f32⟩
  | 98 => ⟨S10000x8x32, .f32⟩
  | 99 => ⟨S10000x8x32, .f32⟩
  | 100 => ⟨S10000x8x32, .f32⟩
  | 101 => ⟨S1x32x64, .f32⟩
  | 102 => ⟨S32x64, .f32⟩
  | 103 => ⟨S10000x8x64, .f32⟩
  | 104 => ⟨S10000x8x64, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x8x32, .f32⟩
  | 114 => ⟨S320000x1x1, .f32⟩
  | 115 => ⟨S320000x8x32, .f32⟩
  | 116 => ⟨S320000x8x32, .f32⟩
  | 117 => ⟨S_, .f32⟩
  | 118 => ⟨S10000x8x32, .f32⟩
  | 119 => ⟨S320000x1, .i32⟩
  | 120 => ⟨S10000x8x32, .f32⟩
  | 121 => ⟨S_, .f32⟩
  | 122 => ⟨S10000x8x32, .f32⟩
  | 123 => ⟨S10000x8x32, .f32⟩
  | 124 => ⟨S10000x8x32, .f32⟩
  | 125 => ⟨S1x32x64, .f32⟩
  | 126 => ⟨S32x64, .f32⟩
  | 127 => ⟨S10000x8x64, .f32⟩
  | _ => ⟨S8x10000x15, .f32⟩

abbrev hbmTy0_9 (i : Nat) : BufTy := match i % 128 with
  | 0 => ⟨S10000x8x64, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8x32, .f32⟩
  | 10 => ⟨S320000x1x1, .f32⟩
  | 11 => ⟨S320000x8x32, .f32⟩
  | 12 => ⟨S320000x8x32, .f32⟩
  | 13 => ⟨S_, .f32⟩
  | 14 => ⟨S10000x8x32, .f32⟩
  | 15 => ⟨S320000x1, .i32⟩
  | 16 => ⟨S10000x8x32, .f32⟩
  | 17 => ⟨S_, .f32⟩
  | 18 => ⟨S10000x8x32, .f32⟩
  | 19 => ⟨S10000x8x32, .f32⟩
  | 20 => ⟨S10000x8x32, .f32⟩
  | 21 => ⟨S1x32x64, .f32⟩
  | 22 => ⟨S32x64, .f32⟩
  | 23 => ⟨S10000x8x64, .f32⟩
  | 24 => ⟨S10000x8x64, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x8x32, .f32⟩
  | 34 => ⟨S320000x1x1, .f32⟩
  | 35 => ⟨S320000x8x32, .f32⟩
  | 36 => ⟨S320000x8x32, .f32⟩
  | 37 => ⟨S_, .f32⟩
  | 38 => ⟨S10000x8x32, .f32⟩
  | 39 => ⟨S320000x1, .i32⟩
  | 40 => ⟨S10000x8x32, .f32⟩
  | 41 => ⟨S_, .f32⟩
  | 42 => ⟨S10000x8x32, .f32⟩
  | 43 => ⟨S10000x8x32, .f32⟩
  | 44 => ⟨S10000x8x32, .f32⟩
  | 45 => ⟨S1x32x64, .f32⟩
  | 46 => ⟨S32x64, .f32⟩
  | 47 => ⟨S10000x8x64, .f32⟩
  | 48 => ⟨S10000x8x64, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8x32, .f32⟩
  | 58 => ⟨S320000x1x1, .f32⟩
  | 59 => ⟨S320000x8x32, .f32⟩
  | 60 => ⟨S320000x8x32, .f32⟩
  | 61 => ⟨S_, .f32⟩
  | 62 => ⟨S10000x8x32, .f32⟩
  | 63 => ⟨S320000x1, .i32⟩
  | 64 => ⟨S10000x8x32, .f32⟩
  | 65 => ⟨S_, .f32⟩
  | 66 => ⟨S10000x8x32, .f32⟩
  | 67 => ⟨S10000x8x32, .f32⟩
  | 68 => ⟨S10000x8x32, .f32⟩
  | 69 => ⟨S1x32x64, .f32⟩
  | 70 => ⟨S32x64, .f32⟩
  | 71 => ⟨S10000x8x64, .f32⟩
  | 72 => ⟨S10000x8x64, .f32⟩
  | 73 => ⟨S1x1x64, .f32⟩
  | 74 => ⟨S10000x8x64, .f32⟩
  | 75 => ⟨S10000x8x64, .f32⟩
  | 76 => ⟨S_, .f32⟩
  | 77 => ⟨S10000x8x64, .f32⟩
  | 78 => ⟨S10000x8x64, .f32⟩
  | 79 => ⟨S8x10000x64, .f32⟩
  | 80 => ⟨S8x640000, .f32⟩
  | 81 => ⟨S8x512, .f32⟩
  | 82 => ⟨S8x6, .f32⟩
  | 83 => ⟨S1x6, .f32⟩
  | 84 => ⟨S8x6, .f32⟩
  | 85 => ⟨S8x6, .f32⟩
  | 86 => ⟨S_, .f32⟩
  | 87 => ⟨S8, .f32⟩
  | 88 => ⟨S_, .f32⟩
  | 89 => ⟨S8, .f32⟩
  | 90 => ⟨S8, .f32⟩
  | 91 => ⟨S8x1, .f32⟩
  | 92 => ⟨S8x6, .f32⟩
  | 93 => ⟨S8x6, .f32⟩
  | 94 => ⟨S8x6, .f32⟩
  | 95 => ⟨S_, .f32⟩
  | 96 => ⟨S8, .f32⟩
  | 97 => ⟨S8x1, .f32⟩
  | 98 => ⟨S8x1, .f32⟩
  | 99 => ⟨S8x6, .f32⟩
  | 100 => ⟨S8x6, .f32⟩
  | _ => ⟨S8x10000x15, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8x10000x15, .f32⟩

abbrev bufTy : (tb : Table) → Fin (tcTables nBuf tb) → BufTy
  | .hbm, ⟨i, _⟩ => hbmTy i
  | .local _ .vmem, ⟨0, _⟩ => ⟨S8x5120, .f32⟩
  | .local _ .vmem, ⟨1, _⟩ => ⟨S8x5120, .f32⟩
  | .local _ .vmem, ⟨2, _⟩ => ⟨S5120x512, .f32⟩
  | .local _ .vmem, ⟨3, _⟩ => ⟨S5120x512, .f32⟩
  | .local _ .vmem, ⟨4, _⟩ => ⟨S512, .f32⟩
  | .local _ .vmem, ⟨5, _⟩ => ⟨S8x512, .f32⟩
  | _, _ => ⟨S8x10000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_23 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_24 : Ref sig .tc := ⟨.hbm, 164, rfl⟩
abbrev main_v126 : Ref sig .tc := ⟨.hbm, 165, rfl⟩
abbrev main_v127 : Ref sig .tc := ⟨.hbm, 166, rfl⟩
abbrev main_c_25 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_26 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_27 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_28 : Ref sig .tc := ⟨.hbm, 188, rfl⟩
abbrev main_v146 : Ref sig .tc := ⟨.hbm, 189, rfl⟩
abbrev main_v147 : Ref sig .tc := ⟨.hbm, 190, rfl⟩
abbrev main_c_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_30 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_31 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_32 : Ref sig .tc := ⟨.hbm, 212, rfl⟩
abbrev main_v166 : Ref sig .tc := ⟨.hbm, 213, rfl⟩
abbrev main_v167 : Ref sig .tc := ⟨.hbm, 214, rfl⟩
abbrev main_c_33 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_34 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_35 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_c_36 : Ref sig .tc := ⟨.hbm, 236, rfl⟩
abbrev main_v186 : Ref sig .tc := ⟨.hbm, 237, rfl⟩
abbrev main_v187 : Ref sig .tc := ⟨.hbm, 238, rfl⟩
abbrev main_c_37 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_38 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_39 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_c_40 : Ref sig .tc := ⟨.hbm, 260, rfl⟩
abbrev main_v206 : Ref sig .tc := ⟨.hbm, 261, rfl⟩
abbrev main_v207 : Ref sig .tc := ⟨.hbm, 262, rfl⟩
abbrev main_c_41 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_cst_42 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_43 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_c_44 : Ref sig .tc := ⟨.hbm, 284, rfl⟩
abbrev main_v226 : Ref sig .tc := ⟨.hbm, 285, rfl⟩
abbrev main_v227 : Ref sig .tc := ⟨.hbm, 286, rfl⟩
abbrev main_c_45 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_46 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_47 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_c_48 : Ref sig .tc := ⟨.hbm, 308, rfl⟩
abbrev main_v246 : Ref sig .tc := ⟨.hbm, 309, rfl⟩
abbrev main_v247 : Ref sig .tc := ⟨.hbm, 310, rfl⟩
abbrev main_c_49 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_cst_50 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_cst_51 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_c_52 : Ref sig .tc := ⟨.hbm, 332, rfl⟩
abbrev main_v266 : Ref sig .tc := ⟨.hbm, 333, rfl⟩
abbrev main_v267 : Ref sig .tc := ⟨.hbm, 334, rfl⟩
abbrev main_c_53 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_cst_54 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_cst_55 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_c_56 : Ref sig .tc := ⟨.hbm, 356, rfl⟩
abbrev main_v286 : Ref sig .tc := ⟨.hbm, 357, rfl⟩
abbrev main_v287 : Ref sig .tc := ⟨.hbm, 358, rfl⟩
abbrev main_c_57 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_cst_58 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_cst_59 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_c_60 : Ref sig .tc := ⟨.hbm, 380, rfl⟩
abbrev main_v306 : Ref sig .tc := ⟨.hbm, 381, rfl⟩
abbrev main_v307 : Ref sig .tc := ⟨.hbm, 382, rfl⟩
abbrev main_c_61 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_cst_62 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_cst_63 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_c_64 : Ref sig .tc := ⟨.hbm, 404, rfl⟩
abbrev main_v326 : Ref sig .tc := ⟨.hbm, 405, rfl⟩
abbrev main_v327 : Ref sig .tc := ⟨.hbm, 406, rfl⟩
abbrev main_c_65 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_cst_66 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_cst_67 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_c_68 : Ref sig .tc := ⟨.hbm, 428, rfl⟩
abbrev main_v346 : Ref sig .tc := ⟨.hbm, 429, rfl⟩
abbrev main_v347 : Ref sig .tc := ⟨.hbm, 430, rfl⟩
abbrev main_c_69 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_cst_70 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_cst_71 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_c_72 : Ref sig .tc := ⟨.hbm, 452, rfl⟩
abbrev main_v366 : Ref sig .tc := ⟨.hbm, 453, rfl⟩
abbrev main_v367 : Ref sig .tc := ⟨.hbm, 454, rfl⟩
abbrev main_c_73 : Ref sig .tc := ⟨.hbm, 455, rfl⟩
abbrev main_v368 : Ref sig .tc := ⟨.hbm, 456, rfl⟩
abbrev main_v369 : Ref sig .tc := ⟨.hbm, 457, rfl⟩
abbrev main_v370 : Ref sig .tc := ⟨.hbm, 458, rfl⟩
abbrev main_v371 : Ref sig .tc := ⟨.hbm, 459, rfl⟩
abbrev main_v372 : Ref sig .tc := ⟨.hbm, 460, rfl⟩
abbrev main_v373 : Ref sig .tc := ⟨.hbm, 461, rfl⟩
abbrev main_v374 : Ref sig .tc := ⟨.hbm, 462, rfl⟩
abbrev main_v375 : Ref sig .tc := ⟨.hbm, 463, rfl⟩
abbrev main_cst_74 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_cst_75 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_c_76 : Ref sig .tc := ⟨.hbm, 476, rfl⟩
abbrev main_v386 : Ref sig .tc := ⟨.hbm, 477, rfl⟩
abbrev main_v387 : Ref sig .tc := ⟨.hbm, 478, rfl⟩
abbrev main_c_77 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_cst_78 : Ref sig .tc := ⟨.hbm, 488, rfl⟩
abbrev main_v396 : Ref sig .tc := ⟨.hbm, 489, rfl⟩
abbrev main_v397 : Ref sig .tc := ⟨.hbm, 490, rfl⟩
abbrev main_v398 : Ref sig .tc := ⟨.hbm, 491, rfl⟩
abbrev main_cst_79 : Ref sig .tc := ⟨.hbm, 492, rfl⟩
abbrev main_v399 : Ref sig .tc := ⟨.hbm, 493, rfl⟩
abbrev main_v400 : Ref sig .tc := ⟨.hbm, 494, rfl⟩
abbrev main_v401 : Ref sig .tc := ⟨.hbm, 495, rfl⟩
abbrev main_v402 : Ref sig .tc := ⟨.hbm, 496, rfl⟩
abbrev main_v403 : Ref sig .tc := ⟨.hbm, 497, rfl⟩
abbrev main_v404 : Ref sig .tc := ⟨.hbm, 498, rfl⟩
abbrev main_v405 : Ref sig .tc := ⟨.hbm, 499, rfl⟩
abbrev main_c_80 : Ref sig .tc := ⟨.hbm, 500, rfl⟩
abbrev main_v406 : Ref sig .tc := ⟨.hbm, 501, rfl⟩
abbrev main_v407 : Ref sig .tc := ⟨.hbm, 502, rfl⟩
abbrev main_c_81 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_v415 : Ref sig .tc := ⟨.hbm, 511, rfl⟩
abbrev main_cst_82 : Ref sig .tc := ⟨.hbm, 512, rfl⟩
abbrev main_v416 : Ref sig .tc := ⟨.hbm, 513, rfl⟩
abbrev main_v417 : Ref sig .tc := ⟨.hbm, 514, rfl⟩
abbrev main_v418 : Ref sig .tc := ⟨.hbm, 515, rfl⟩
abbrev main_cst_83 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_c_84 : Ref sig .tc := ⟨.hbm, 524, rfl⟩
abbrev main_v426 : Ref sig .tc := ⟨.hbm, 525, rfl⟩
abbrev main_v427 : Ref sig .tc := ⟨.hbm, 526, rfl⟩
abbrev main_c_85 : Ref sig .tc := ⟨.hbm, 527, rfl⟩
abbrev main_v428 : Ref sig .tc := ⟨.hbm, 528, rfl⟩
abbrev main_v429 : Ref sig .tc := ⟨.hbm, 529, rfl⟩
abbrev main_v430 : Ref sig .tc := ⟨.hbm, 530, rfl⟩
abbrev main_v431 : Ref sig .tc := ⟨.hbm, 531, rfl⟩
abbrev main_v432 : Ref sig .tc := ⟨.hbm, 532, rfl⟩
abbrev main_v433 : Ref sig .tc := ⟨.hbm, 533, rfl⟩
abbrev main_v434 : Ref sig .tc := ⟨.hbm, 534, rfl⟩
abbrev main_v435 : Ref sig .tc := ⟨.hbm, 535, rfl⟩
abbrev main_cst_86 : Ref sig .tc := ⟨.hbm, 536, rfl⟩
abbrev main_v436 : Ref sig .tc := ⟨.hbm, 537, rfl⟩
abbrev main_v437 : Ref sig .tc := ⟨.hbm, 538, rfl⟩
abbrev main_v438 : Ref sig .tc := ⟨.hbm, 539, rfl⟩
abbrev main_cst_87 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_v443 : Ref sig .tc := ⟨.hbm, 545, rfl⟩
abbrev main_v444 : Ref sig .tc := ⟨.hbm, 546, rfl⟩
abbrev main_v445 : Ref sig .tc := ⟨.hbm, 547, rfl⟩
abbrev main_c_88 : Ref sig .tc := ⟨.hbm, 548, rfl⟩
abbrev main_v446 : Ref sig .tc := ⟨.hbm, 549, rfl⟩
abbrev main_v447 : Ref sig .tc := ⟨.hbm, 550, rfl⟩
abbrev main_c_89 : Ref sig .tc := ⟨.hbm, 551, rfl⟩
abbrev main_v448 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_cst_90 : Ref sig .tc := ⟨.hbm, 560, rfl⟩
abbrev main_v456 : Ref sig .tc := ⟨.hbm, 561, rfl⟩
abbrev main_v457 : Ref sig .tc := ⟨.hbm, 562, rfl⟩
abbrev main_v458 : Ref sig .tc := ⟨.hbm, 563, rfl⟩
abbrev main_cst_91 : Ref sig .tc := ⟨.hbm, 564, rfl⟩
abbrev main_v459 : Ref sig .tc := ⟨.hbm, 565, rfl⟩
abbrev main_v460 : Ref sig .tc := ⟨.hbm, 566, rfl⟩
abbrev main_v461 : Ref sig .tc := ⟨.hbm, 567, rfl⟩
abbrev main_v462 : Ref sig .tc := ⟨.hbm, 568, rfl⟩
abbrev main_v463 : Ref sig .tc := ⟨.hbm, 569, rfl⟩
abbrev main_v464 : Ref sig .tc := ⟨.hbm, 570, rfl⟩
abbrev main_v465 : Ref sig .tc := ⟨.hbm, 571, rfl⟩
abbrev main_c_92 : Ref sig .tc := ⟨.hbm, 572, rfl⟩
abbrev main_v466 : Ref sig .tc := ⟨.hbm, 573, rfl⟩
abbrev main_v467 : Ref sig .tc := ⟨.hbm, 574, rfl⟩
abbrev main_c_93 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_v471 : Ref sig .tc := ⟨.hbm, 579, rfl⟩
abbrev main_v472 : Ref sig .tc := ⟨.hbm, 580, rfl⟩
abbrev main_v473 : Ref sig .tc := ⟨.hbm, 581, rfl⟩
abbrev main_v474 : Ref sig .tc := ⟨.hbm, 582, rfl⟩
abbrev main_v475 : Ref sig .tc := ⟨.hbm, 583, rfl⟩
abbrev main_cst_94 : Ref sig .tc := ⟨.hbm, 584, rfl⟩
abbrev main_v476 : Ref sig .tc := ⟨.hbm, 585, rfl⟩
abbrev main_v477 : Ref sig .tc := ⟨.hbm, 586, rfl⟩
abbrev main_v478 : Ref sig .tc := ⟨.hbm, 587, rfl⟩
abbrev main_cst_95 : Ref sig .tc := ⟨.hbm, 588, rfl⟩
abbrev main_v479 : Ref sig .tc := ⟨.hbm, 589, rfl⟩
abbrev main_v480 : Ref sig .tc := ⟨.hbm, 590, rfl⟩
abbrev main_v481 : Ref sig .tc := ⟨.hbm, 591, rfl⟩
abbrev main_v482 : Ref sig .tc := ⟨.hbm, 592, rfl⟩
abbrev main_v483 : Ref sig .tc := ⟨.hbm, 593, rfl⟩
abbrev main_v484 : Ref sig .tc := ⟨.hbm, 594, rfl⟩
abbrev main_v485 : Ref sig .tc := ⟨.hbm, 595, rfl⟩
abbrev main_c_96 : Ref sig .tc := ⟨.hbm, 596, rfl⟩
abbrev main_v486 : Ref sig .tc := ⟨.hbm, 597, rfl⟩
abbrev main_v487 : Ref sig .tc := ⟨.hbm, 598, rfl⟩
abbrev main_c_97 : Ref sig .tc := ⟨.hbm, 599, rfl⟩
abbrev main_v488 : Ref sig .tc := ⟨.hbm, 600, rfl⟩
abbrev main_v489 : Ref sig .tc := ⟨.hbm, 601, rfl⟩
abbrev main_v490 : Ref sig .tc := ⟨.hbm, 602, rfl⟩
abbrev main_v491 : Ref sig .tc := ⟨.hbm, 603, rfl⟩
abbrev main_v492 : Ref sig .tc := ⟨.hbm, 604, rfl⟩
abbrev main_v493 : Ref sig .tc := ⟨.hbm, 605, rfl⟩
abbrev main_v494 : Ref sig .tc := ⟨.hbm, 606, rfl⟩
abbrev main_v495 : Ref sig .tc := ⟨.hbm, 607, rfl⟩
abbrev main_cst_98 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_cst_99 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_v503 : Ref sig .tc := ⟨.hbm, 617, rfl⟩
abbrev main_v504 : Ref sig .tc := ⟨.hbm, 618, rfl⟩
abbrev main_v505 : Ref sig .tc := ⟨.hbm, 619, rfl⟩
abbrev main_c_100 : Ref sig .tc := ⟨.hbm, 620, rfl⟩
abbrev main_v506 : Ref sig .tc := ⟨.hbm, 621, rfl⟩
abbrev main_v507 : Ref sig .tc := ⟨.hbm, 622, rfl⟩
abbrev main_c_101 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_cst_102 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_cst_103 : Ref sig .tc := ⟨.hbm, 636, rfl⟩
abbrev main_v519 : Ref sig .tc := ⟨.hbm, 637, rfl⟩
abbrev main_v520 : Ref sig .tc := ⟨.hbm, 638, rfl⟩
abbrev main_v521 : Ref sig .tc := ⟨.hbm, 639, rfl⟩
abbrev main_v522 : Ref sig .tc := ⟨.hbm, 640, rfl⟩
abbrev main_v523 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_call1_cst : Ref sig .tc := ⟨.hbm, 647, rfl⟩
abbrev main_call1_v0 : Ref sig .tc := ⟨.hbm, 648, rfl⟩
abbrev main_v529 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_c_104 : Ref sig .tc := ⟨.hbm, 653, rfl⟩
abbrev main_v533 : Ref sig .tc := ⟨.hbm, 654, rfl⟩
abbrev main_v534 : Ref sig .tc := ⟨.hbm, 655, rfl⟩
abbrev main_c_105 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_cst_106 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_v546 : Ref sig .tc := ⟨.hbm, 669, rfl⟩
abbrev main_v547 : Ref sig .tc := ⟨.hbm, 670, rfl⟩
abbrev main_v548 : Ref sig .tc := ⟨.hbm, 671, rfl⟩
abbrev main_v549 : Ref sig .tc := ⟨.hbm, 672, rfl⟩
abbrev main_c_107 : Ref sig .tc := ⟨.hbm, 673, rfl⟩
abbrev main_v550 : Ref sig .tc := ⟨.hbm, 674, rfl⟩
abbrev main_v551 : Ref sig .tc := ⟨.hbm, 675, rfl⟩
abbrev main_c_108 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_v556 : Ref sig .tc := ⟨.hbm, 681, rfl⟩
abbrev main_v557 : Ref sig .tc := ⟨.hbm, 682, rfl⟩
abbrev main_v558 : Ref sig .tc := ⟨.hbm, 683, rfl⟩
abbrev main_v559 : Ref sig .tc := ⟨.hbm, 684, rfl⟩
abbrev main_cst_109 : Ref sig .tc := ⟨.hbm, 685, rfl⟩
abbrev main_v560 : Ref sig .tc := ⟨.hbm, 686, rfl⟩
abbrev main_v561 : Ref sig .tc := ⟨.hbm, 687, rfl⟩
abbrev main_v562 : Ref sig .tc := ⟨.hbm, 688, rfl⟩
abbrev main_cst_110 : Ref sig .tc := ⟨.hbm, 689, rfl⟩
abbrev main_v563 : Ref sig .tc := ⟨.hbm, 690, rfl⟩
abbrev main_v564 : Ref sig .tc := ⟨.hbm, 691, rfl⟩
abbrev main_v565 : Ref sig .tc := ⟨.hbm, 692, rfl⟩
abbrev main_v566 : Ref sig .tc := ⟨.hbm, 693, rfl⟩
abbrev main_v567 : Ref sig .tc := ⟨.hbm, 694, rfl⟩
abbrev main_v568 : Ref sig .tc := ⟨.hbm, 695, rfl⟩
abbrev main_v569 : Ref sig .tc := ⟨.hbm, 696, rfl⟩
abbrev main_c_111 : Ref sig .tc := ⟨.hbm, 697, rfl⟩
abbrev main_v570 : Ref sig .tc := ⟨.hbm, 698, rfl⟩
abbrev main_v571 : Ref sig .tc := ⟨.hbm, 699, rfl⟩
abbrev main_c_112 : Ref sig .tc := ⟨.hbm, 700, rfl⟩
abbrev main_v572 : Ref sig .tc := ⟨.hbm, 701, rfl⟩
abbrev main_v573 : Ref sig .tc := ⟨.hbm, 702, rfl⟩
abbrev main_v574 : Ref sig .tc := ⟨.hbm, 703, rfl⟩
abbrev main_v575 : Ref sig .tc := ⟨.hbm, 704, rfl⟩
abbrev main_v576 : Ref sig .tc := ⟨.hbm, 705, rfl⟩
abbrev main_v577 : Ref sig .tc := ⟨.hbm, 706, rfl⟩
abbrev main_v578 : Ref sig .tc := ⟨.hbm, 707, rfl⟩
abbrev main_v579 : Ref sig .tc := ⟨.hbm, 708, rfl⟩
abbrev main_cst_113 : Ref sig .tc := ⟨.hbm, 709, rfl⟩
abbrev main_v580 : Ref sig .tc := ⟨.hbm, 710, rfl⟩
abbrev main_v581 : Ref sig .tc := ⟨.hbm, 711, rfl⟩
abbrev main_v582 : Ref sig .tc := ⟨.hbm, 712, rfl⟩
abbrev main_cst_114 : Ref sig .tc := ⟨.hbm, 713, rfl⟩
abbrev main_v583 : Ref sig .tc := ⟨.hbm, 714, rfl⟩
abbrev main_v584 : Ref sig .tc := ⟨.hbm, 715, rfl⟩
abbrev main_v585 : Ref sig .tc := ⟨.hbm, 716, rfl⟩
abbrev main_v586 : Ref sig .tc := ⟨.hbm, 717, rfl⟩
abbrev main_v587 : Ref sig .tc := ⟨.hbm, 718, rfl⟩
abbrev main_v588 : Ref sig .tc := ⟨.hbm, 719, rfl⟩
abbrev main_v589 : Ref sig .tc := ⟨.hbm, 720, rfl⟩
abbrev main_c_115 : Ref sig .tc := ⟨.hbm, 721, rfl⟩
abbrev main_v590 : Ref sig .tc := ⟨.hbm, 722, rfl⟩
abbrev main_v591 : Ref sig .tc := ⟨.hbm, 723, rfl⟩
abbrev main_c_116 : Ref sig .tc := ⟨.hbm, 724, rfl⟩
abbrev main_v592 : Ref sig .tc := ⟨.hbm, 725, rfl⟩
abbrev main_v593 : Ref sig .tc := ⟨.hbm, 726, rfl⟩
abbrev main_v594 : Ref sig .tc := ⟨.hbm, 727, rfl⟩
abbrev main_v595 : Ref sig .tc := ⟨.hbm, 728, rfl⟩
abbrev main_v596 : Ref sig .tc := ⟨.hbm, 729, rfl⟩
abbrev main_v597 : Ref sig .tc := ⟨.hbm, 730, rfl⟩
abbrev main_v598 : Ref sig .tc := ⟨.hbm, 731, rfl⟩
abbrev main_v599 : Ref sig .tc := ⟨.hbm, 732, rfl⟩
abbrev main_cst_117 : Ref sig .tc := ⟨.hbm, 733, rfl⟩
abbrev main_v600 : Ref sig .tc := ⟨.hbm, 734, rfl⟩
abbrev main_v601 : Ref sig .tc := ⟨.hbm, 735, rfl⟩
abbrev main_v602 : Ref sig .tc := ⟨.hbm, 736, rfl⟩
abbrev main_cst_118 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_v607 : Ref sig .tc := ⟨.hbm, 742, rfl⟩
abbrev main_v608 : Ref sig .tc := ⟨.hbm, 743, rfl⟩
abbrev main_v609 : Ref sig .tc := ⟨.hbm, 744, rfl⟩
abbrev main_c_119 : Ref sig .tc := ⟨.hbm, 745, rfl⟩
abbrev main_v610 : Ref sig .tc := ⟨.hbm, 746, rfl⟩
abbrev main_v611 : Ref sig .tc := ⟨.hbm, 747, rfl⟩
abbrev main_c_120 : Ref sig .tc := ⟨.hbm, 748, rfl⟩
abbrev main_v612 : Ref sig .tc := ⟨.hbm, 749, rfl⟩
abbrev main_v613 : Ref sig .tc := ⟨.hbm, 750, rfl⟩
abbrev main_v614 : Ref sig .tc := ⟨.hbm, 751, rfl⟩
abbrev main_v615 : Ref sig .tc := ⟨.hbm, 752, rfl⟩
abbrev main_v616 : Ref sig .tc := ⟨.hbm, 753, rfl⟩
abbrev main_v617 : Ref sig .tc := ⟨.hbm, 754, rfl⟩
abbrev main_v618 : Ref sig .tc := ⟨.hbm, 755, rfl⟩
abbrev main_v619 : Ref sig .tc := ⟨.hbm, 756, rfl⟩
abbrev main_cst_121 : Ref sig .tc := ⟨.hbm, 757, rfl⟩
abbrev main_v620 : Ref sig .tc := ⟨.hbm, 758, rfl⟩
abbrev main_v621 : Ref sig .tc := ⟨.hbm, 759, rfl⟩
abbrev main_v622 : Ref sig .tc := ⟨.hbm, 760, rfl⟩
abbrev main_cst_122 : Ref sig .tc := ⟨.hbm, 761, rfl⟩
abbrev main_v623 : Ref sig .tc := ⟨.hbm, 762, rfl⟩
abbrev main_v624 : Ref sig .tc := ⟨.hbm, 763, rfl⟩
abbrev main_v625 : Ref sig .tc := ⟨.hbm, 764, rfl⟩
abbrev main_v626 : Ref sig .tc := ⟨.hbm, 765, rfl⟩
abbrev main_v627 : Ref sig .tc := ⟨.hbm, 766, rfl⟩
abbrev main_v628 : Ref sig .tc := ⟨.hbm, 767, rfl⟩
abbrev main_v629 : Ref sig .tc := ⟨.hbm, 768, rfl⟩
abbrev main_c_123 : Ref sig .tc := ⟨.hbm, 769, rfl⟩
abbrev main_v630 : Ref sig .tc := ⟨.hbm, 770, rfl⟩
abbrev main_v631 : Ref sig .tc := ⟨.hbm, 771, rfl⟩
abbrev main_c_124 : Ref sig .tc := ⟨.hbm, 772, rfl⟩
abbrev main_v632 : Ref sig .tc := ⟨.hbm, 773, rfl⟩
abbrev main_v633 : Ref sig .tc := ⟨.hbm, 774, rfl⟩
abbrev main_v634 : Ref sig .tc := ⟨.hbm, 775, rfl⟩
abbrev main_v635 : Ref sig .tc := ⟨.hbm, 776, rfl⟩
abbrev main_v636 : Ref sig .tc := ⟨.hbm, 777, rfl⟩
abbrev main_v637 : Ref sig .tc := ⟨.hbm, 778, rfl⟩
abbrev main_v638 : Ref sig .tc := ⟨.hbm, 779, rfl⟩
abbrev main_v639 : Ref sig .tc := ⟨.hbm, 780, rfl⟩
abbrev main_cst_125 : Ref sig .tc := ⟨.hbm, 781, rfl⟩
abbrev main_v640 : Ref sig .tc := ⟨.hbm, 782, rfl⟩
abbrev main_v641 : Ref sig .tc := ⟨.hbm, 783, rfl⟩
abbrev main_v642 : Ref sig .tc := ⟨.hbm, 784, rfl⟩
abbrev main_cst_126 : Ref sig .tc := ⟨.hbm, 785, rfl⟩
abbrev main_v643 : Ref sig .tc := ⟨.hbm, 786, rfl⟩
abbrev main_v644 : Ref sig .tc := ⟨.hbm, 787, rfl⟩
abbrev main_v645 : Ref sig .tc := ⟨.hbm, 788, rfl⟩
abbrev main_v646 : Ref sig .tc := ⟨.hbm, 789, rfl⟩
abbrev main_v647 : Ref sig .tc := ⟨.hbm, 790, rfl⟩
abbrev main_v648 : Ref sig .tc := ⟨.hbm, 791, rfl⟩
abbrev main_v649 : Ref sig .tc := ⟨.hbm, 792, rfl⟩
abbrev main_c_127 : Ref sig .tc := ⟨.hbm, 793, rfl⟩
abbrev main_v650 : Ref sig .tc := ⟨.hbm, 794, rfl⟩
abbrev main_v651 : Ref sig .tc := ⟨.hbm, 795, rfl⟩
abbrev main_c_128 : Ref sig .tc := ⟨.hbm, 796, rfl⟩
abbrev main_v652 : Ref sig .tc := ⟨.hbm, 797, rfl⟩
abbrev main_v653 : Ref sig .tc := ⟨.hbm, 798, rfl⟩
abbrev main_v654 : Ref sig .tc := ⟨.hbm, 799, rfl⟩
abbrev main_v655 : Ref sig .tc := ⟨.hbm, 800, rfl⟩
abbrev main_v656 : Ref sig .tc := ⟨.hbm, 801, rfl⟩
abbrev main_v657 : Ref sig .tc := ⟨.hbm, 802, rfl⟩
abbrev main_v658 : Ref sig .tc := ⟨.hbm, 803, rfl⟩
abbrev main_v659 : Ref sig .tc := ⟨.hbm, 804, rfl⟩
abbrev main_cst_129 : Ref sig .tc := ⟨.hbm, 805, rfl⟩
abbrev main_v660 : Ref sig .tc := ⟨.hbm, 806, rfl⟩
abbrev main_v661 : Ref sig .tc := ⟨.hbm, 807, rfl⟩
abbrev main_v662 : Ref sig .tc := ⟨.hbm, 808, rfl⟩
abbrev main_cst_130 : Ref sig .tc := ⟨.hbm, 809, rfl⟩
abbrev main_v663 : Ref sig .tc := ⟨.hbm, 810, rfl⟩
abbrev main_v664 : Ref sig .tc := ⟨.hbm, 811, rfl⟩
abbrev main_v665 : Ref sig .tc := ⟨.hbm, 812, rfl⟩
abbrev main_v666 : Ref sig .tc := ⟨.hbm, 813, rfl⟩
abbrev main_v667 : Ref sig .tc := ⟨.hbm, 814, rfl⟩
abbrev main_v668 : Ref sig .tc := ⟨.hbm, 815, rfl⟩
abbrev main_v669 : Ref sig .tc := ⟨.hbm, 816, rfl⟩
abbrev main_c_131 : Ref sig .tc := ⟨.hbm, 817, rfl⟩
abbrev main_v670 : Ref sig .tc := ⟨.hbm, 818, rfl⟩
abbrev main_v671 : Ref sig .tc := ⟨.hbm, 819, rfl⟩
abbrev main_c_132 : Ref sig .tc := ⟨.hbm, 820, rfl⟩
abbrev main_v672 : Ref sig .tc := ⟨.hbm, 821, rfl⟩
abbrev main_v673 : Ref sig .tc := ⟨.hbm, 822, rfl⟩
abbrev main_v674 : Ref sig .tc := ⟨.hbm, 823, rfl⟩
abbrev main_v675 : Ref sig .tc := ⟨.hbm, 824, rfl⟩
abbrev main_v676 : Ref sig .tc := ⟨.hbm, 825, rfl⟩
abbrev main_v677 : Ref sig .tc := ⟨.hbm, 826, rfl⟩
abbrev main_v678 : Ref sig .tc := ⟨.hbm, 827, rfl⟩
abbrev main_v679 : Ref sig .tc := ⟨.hbm, 828, rfl⟩
abbrev main_cst_133 : Ref sig .tc := ⟨.hbm, 829, rfl⟩
abbrev main_v680 : Ref sig .tc := ⟨.hbm, 830, rfl⟩
abbrev main_v681 : Ref sig .tc := ⟨.hbm, 831, rfl⟩
abbrev main_v682 : Ref sig .tc := ⟨.hbm, 832, rfl⟩
abbrev main_cst_134 : Ref sig .tc := ⟨.hbm, 833, rfl⟩
abbrev main_v683 : Ref sig .tc := ⟨.hbm, 834, rfl⟩
abbrev main_v684 : Ref sig .tc := ⟨.hbm, 835, rfl⟩
abbrev main_v685 : Ref sig .tc := ⟨.hbm, 836, rfl⟩
abbrev main_v686 : Ref sig .tc := ⟨.hbm, 837, rfl⟩
abbrev main_v687 : Ref sig .tc := ⟨.hbm, 838, rfl⟩
abbrev main_v688 : Ref sig .tc := ⟨.hbm, 839, rfl⟩
abbrev main_v689 : Ref sig .tc := ⟨.hbm, 840, rfl⟩
abbrev main_c_135 : Ref sig .tc := ⟨.hbm, 841, rfl⟩
abbrev main_v690 : Ref sig .tc := ⟨.hbm, 842, rfl⟩
abbrev main_v691 : Ref sig .tc := ⟨.hbm, 843, rfl⟩
abbrev main_c_136 : Ref sig .tc := ⟨.hbm, 844, rfl⟩
abbrev main_v692 : Ref sig .tc := ⟨.hbm, 845, rfl⟩
abbrev main_v693 : Ref sig .tc := ⟨.hbm, 846, rfl⟩
abbrev main_v694 : Ref sig .tc := ⟨.hbm, 847, rfl⟩
abbrev main_v695 : Ref sig .tc := ⟨.hbm, 848, rfl⟩
abbrev main_v696 : Ref sig .tc := ⟨.hbm, 849, rfl⟩
abbrev main_v697 : Ref sig .tc := ⟨.hbm, 850, rfl⟩
abbrev main_v698 : Ref sig .tc := ⟨.hbm, 851, rfl⟩
abbrev main_v699 : Ref sig .tc := ⟨.hbm, 852, rfl⟩
abbrev main_cst_137 : Ref sig .tc := ⟨.hbm, 853, rfl⟩
abbrev main_v700 : Ref sig .tc := ⟨.hbm, 854, rfl⟩
abbrev main_v701 : Ref sig .tc := ⟨.hbm, 855, rfl⟩
abbrev main_v702 : Ref sig .tc := ⟨.hbm, 856, rfl⟩
abbrev main_cst_138 : Ref sig .tc := ⟨.hbm, 857, rfl⟩
abbrev main_v703 : Ref sig .tc := ⟨.hbm, 858, rfl⟩
abbrev main_v704 : Ref sig .tc := ⟨.hbm, 859, rfl⟩
abbrev main_v705 : Ref sig .tc := ⟨.hbm, 860, rfl⟩
abbrev main_v706 : Ref sig .tc := ⟨.hbm, 861, rfl⟩
abbrev main_v707 : Ref sig .tc := ⟨.hbm, 862, rfl⟩
abbrev main_v708 : Ref sig .tc := ⟨.hbm, 863, rfl⟩
abbrev main_v709 : Ref sig .tc := ⟨.hbm, 864, rfl⟩
abbrev main_c_139 : Ref sig .tc := ⟨.hbm, 865, rfl⟩
abbrev main_v710 : Ref sig .tc := ⟨.hbm, 866, rfl⟩
abbrev main_v711 : Ref sig .tc := ⟨.hbm, 867, rfl⟩
abbrev main_c_140 : Ref sig .tc := ⟨.hbm, 868, rfl⟩
abbrev main_v712 : Ref sig .tc := ⟨.hbm, 869, rfl⟩
abbrev main_v713 : Ref sig .tc := ⟨.hbm, 870, rfl⟩
abbrev main_v714 : Ref sig .tc := ⟨.hbm, 871, rfl⟩
abbrev main_v715 : Ref sig .tc := ⟨.hbm, 872, rfl⟩
abbrev main_v716 : Ref sig .tc := ⟨.hbm, 873, rfl⟩
abbrev main_v717 : Ref sig .tc := ⟨.hbm, 874, rfl⟩
abbrev main_v718 : Ref sig .tc := ⟨.hbm, 875, rfl⟩
abbrev main_v719 : Ref sig .tc := ⟨.hbm, 876, rfl⟩
abbrev main_cst_141 : Ref sig .tc := ⟨.hbm, 877, rfl⟩
abbrev main_v720 : Ref sig .tc := ⟨.hbm, 878, rfl⟩
abbrev main_v721 : Ref sig .tc := ⟨.hbm, 879, rfl⟩
abbrev main_v722 : Ref sig .tc := ⟨.hbm, 880, rfl⟩
abbrev main_cst_142 : Ref sig .tc := ⟨.hbm, 881, rfl⟩
abbrev main_v723 : Ref sig .tc := ⟨.hbm, 882, rfl⟩
abbrev main_v724 : Ref sig .tc := ⟨.hbm, 883, rfl⟩
abbrev main_v725 : Ref sig .tc := ⟨.hbm, 884, rfl⟩
abbrev main_v726 : Ref sig .tc := ⟨.hbm, 885, rfl⟩
abbrev main_v727 : Ref sig .tc := ⟨.hbm, 886, rfl⟩
abbrev main_v728 : Ref sig .tc := ⟨.hbm, 887, rfl⟩
abbrev main_v729 : Ref sig .tc := ⟨.hbm, 888, rfl⟩
abbrev main_c_143 : Ref sig .tc := ⟨.hbm, 889, rfl⟩
abbrev main_v730 : Ref sig .tc := ⟨.hbm, 890, rfl⟩
abbrev main_v731 : Ref sig .tc := ⟨.hbm, 891, rfl⟩
abbrev main_c_144 : Ref sig .tc := ⟨.hbm, 892, rfl⟩
abbrev main_v732 : Ref sig .tc := ⟨.hbm, 893, rfl⟩
abbrev main_v733 : Ref sig .tc := ⟨.hbm, 894, rfl⟩
abbrev main_v734 : Ref sig .tc := ⟨.hbm, 895, rfl⟩
abbrev main_v735 : Ref sig .tc := ⟨.hbm, 896, rfl⟩
abbrev main_v736 : Ref sig .tc := ⟨.hbm, 897, rfl⟩
abbrev main_v737 : Ref sig .tc := ⟨.hbm, 898, rfl⟩
abbrev main_v738 : Ref sig .tc := ⟨.hbm, 899, rfl⟩
abbrev main_v739 : Ref sig .tc := ⟨.hbm, 900, rfl⟩
abbrev main_cst_145 : Ref sig .tc := ⟨.hbm, 901, rfl⟩
abbrev main_v740 : Ref sig .tc := ⟨.hbm, 902, rfl⟩
abbrev main_v741 : Ref sig .tc := ⟨.hbm, 903, rfl⟩
abbrev main_v742 : Ref sig .tc := ⟨.hbm, 904, rfl⟩
abbrev main_cst_146 : Ref sig .tc := ⟨.hbm, 905, rfl⟩
abbrev main_v743 : Ref sig .tc := ⟨.hbm, 906, rfl⟩
abbrev main_v744 : Ref sig .tc := ⟨.hbm, 907, rfl⟩
abbrev main_v745 : Ref sig .tc := ⟨.hbm, 908, rfl⟩
abbrev main_v746 : Ref sig .tc := ⟨.hbm, 909, rfl⟩
abbrev main_v747 : Ref sig .tc := ⟨.hbm, 910, rfl⟩
abbrev main_v748 : Ref sig .tc := ⟨.hbm, 911, rfl⟩
abbrev main_v749 : Ref sig .tc := ⟨.hbm, 912, rfl⟩
abbrev main_c_147 : Ref sig .tc := ⟨.hbm, 913, rfl⟩
abbrev main_v750 : Ref sig .tc := ⟨.hbm, 914, rfl⟩
abbrev main_v751 : Ref sig .tc := ⟨.hbm, 915, rfl⟩
abbrev main_c_148 : Ref sig .tc := ⟨.hbm, 916, rfl⟩
abbrev main_v752 : Ref sig .tc := ⟨.hbm, 917, rfl⟩
abbrev main_v753 : Ref sig .tc := ⟨.hbm, 918, rfl⟩
abbrev main_v754 : Ref sig .tc := ⟨.hbm, 919, rfl⟩
abbrev main_v755 : Ref sig .tc := ⟨.hbm, 920, rfl⟩
abbrev main_v756 : Ref sig .tc := ⟨.hbm, 921, rfl⟩
abbrev main_v757 : Ref sig .tc := ⟨.hbm, 922, rfl⟩
abbrev main_v758 : Ref sig .tc := ⟨.hbm, 923, rfl⟩
abbrev main_v759 : Ref sig .tc := ⟨.hbm, 924, rfl⟩
abbrev main_cst_149 : Ref sig .tc := ⟨.hbm, 925, rfl⟩
abbrev main_v760 : Ref sig .tc := ⟨.hbm, 926, rfl⟩
abbrev main_v761 : Ref sig .tc := ⟨.hbm, 927, rfl⟩
abbrev main_v762 : Ref sig .tc := ⟨.hbm, 928, rfl⟩
abbrev main_cst_150 : Ref sig .tc := ⟨.hbm, 929, rfl⟩
abbrev main_v763 : Ref sig .tc := ⟨.hbm, 930, rfl⟩
abbrev main_v764 : Ref sig .tc := ⟨.hbm, 931, rfl⟩
abbrev main_v765 : Ref sig .tc := ⟨.hbm, 932, rfl⟩
abbrev main_v766 : Ref sig .tc := ⟨.hbm, 933, rfl⟩
abbrev main_v767 : Ref sig .tc := ⟨.hbm, 934, rfl⟩
abbrev main_v768 : Ref sig .tc := ⟨.hbm, 935, rfl⟩
abbrev main_v769 : Ref sig .tc := ⟨.hbm, 936, rfl⟩
abbrev main_c_151 : Ref sig .tc := ⟨.hbm, 937, rfl⟩
abbrev main_v770 : Ref sig .tc := ⟨.hbm, 938, rfl⟩
abbrev main_v771 : Ref sig .tc := ⟨.hbm, 939, rfl⟩
abbrev main_c_152 : Ref sig .tc := ⟨.hbm, 940, rfl⟩
abbrev main_v772 : Ref sig .tc := ⟨.hbm, 941, rfl⟩
abbrev main_v773 : Ref sig .tc := ⟨.hbm, 942, rfl⟩
abbrev main_v774 : Ref sig .tc := ⟨.hbm, 943, rfl⟩
abbrev main_v775 : Ref sig .tc := ⟨.hbm, 944, rfl⟩
abbrev main_v776 : Ref sig .tc := ⟨.hbm, 945, rfl⟩
abbrev main_v777 : Ref sig .tc := ⟨.hbm, 946, rfl⟩
abbrev main_v778 : Ref sig .tc := ⟨.hbm, 947, rfl⟩
abbrev main_v779 : Ref sig .tc := ⟨.hbm, 948, rfl⟩
abbrev main_cst_153 : Ref sig .tc := ⟨.hbm, 949, rfl⟩
abbrev main_v780 : Ref sig .tc := ⟨.hbm, 950, rfl⟩
abbrev main_v781 : Ref sig .tc := ⟨.hbm, 951, rfl⟩
abbrev main_v782 : Ref sig .tc := ⟨.hbm, 952, rfl⟩
abbrev main_cst_154 : Ref sig .tc := ⟨.hbm, 953, rfl⟩
abbrev main_v783 : Ref sig .tc := ⟨.hbm, 954, rfl⟩
abbrev main_v784 : Ref sig .tc := ⟨.hbm, 955, rfl⟩
abbrev main_v785 : Ref sig .tc := ⟨.hbm, 956, rfl⟩
abbrev main_v786 : Ref sig .tc := ⟨.hbm, 957, rfl⟩
abbrev main_v787 : Ref sig .tc := ⟨.hbm, 958, rfl⟩
abbrev main_v788 : Ref sig .tc := ⟨.hbm, 959, rfl⟩
abbrev main_v789 : Ref sig .tc := ⟨.hbm, 960, rfl⟩
abbrev main_c_155 : Ref sig .tc := ⟨.hbm, 961, rfl⟩
abbrev main_v790 : Ref sig .tc := ⟨.hbm, 962, rfl⟩
abbrev main_v791 : Ref sig .tc := ⟨.hbm, 963, rfl⟩
abbrev main_c_156 : Ref sig .tc := ⟨.hbm, 964, rfl⟩
abbrev main_v792 : Ref sig .tc := ⟨.hbm, 965, rfl⟩
abbrev main_v793 : Ref sig .tc := ⟨.hbm, 966, rfl⟩
abbrev main_v794 : Ref sig .tc := ⟨.hbm, 967, rfl⟩
abbrev main_v795 : Ref sig .tc := ⟨.hbm, 968, rfl⟩
abbrev main_v796 : Ref sig .tc := ⟨.hbm, 969, rfl⟩
abbrev main_v797 : Ref sig .tc := ⟨.hbm, 970, rfl⟩
abbrev main_v798 : Ref sig .tc := ⟨.hbm, 971, rfl⟩
abbrev main_v799 : Ref sig .tc := ⟨.hbm, 972, rfl⟩
abbrev main_cst_157 : Ref sig .tc := ⟨.hbm, 973, rfl⟩
abbrev main_v800 : Ref sig .tc := ⟨.hbm, 974, rfl⟩
abbrev main_v801 : Ref sig .tc := ⟨.hbm, 975, rfl⟩
abbrev main_v802 : Ref sig .tc := ⟨.hbm, 976, rfl⟩
abbrev main_cst_158 : Ref sig .tc := ⟨.hbm, 977, rfl⟩
abbrev main_v803 : Ref sig .tc := ⟨.hbm, 978, rfl⟩
abbrev main_v804 : Ref sig .tc := ⟨.hbm, 979, rfl⟩
abbrev main_v805 : Ref sig .tc := ⟨.hbm, 980, rfl⟩
abbrev main_v806 : Ref sig .tc := ⟨.hbm, 981, rfl⟩
abbrev main_v807 : Ref sig .tc := ⟨.hbm, 982, rfl⟩
abbrev main_v808 : Ref sig .tc := ⟨.hbm, 983, rfl⟩
abbrev main_v809 : Ref sig .tc := ⟨.hbm, 984, rfl⟩
abbrev main_c_159 : Ref sig .tc := ⟨.hbm, 985, rfl⟩
abbrev main_v810 : Ref sig .tc := ⟨.hbm, 986, rfl⟩
abbrev main_v811 : Ref sig .tc := ⟨.hbm, 987, rfl⟩
abbrev main_c_160 : Ref sig .tc := ⟨.hbm, 988, rfl⟩
abbrev main_v812 : Ref sig .tc := ⟨.hbm, 989, rfl⟩
abbrev main_v813 : Ref sig .tc := ⟨.hbm, 990, rfl⟩
abbrev main_v814 : Ref sig .tc := ⟨.hbm, 991, rfl⟩
abbrev main_v815 : Ref sig .tc := ⟨.hbm, 992, rfl⟩
abbrev main_v816 : Ref sig .tc := ⟨.hbm, 993, rfl⟩
abbrev main_v817 : Ref sig .tc := ⟨.hbm, 994, rfl⟩
abbrev main_v818 : Ref sig .tc := ⟨.hbm, 995, rfl⟩
abbrev main_v819 : Ref sig .tc := ⟨.hbm, 996, rfl⟩
abbrev main_cst_161 : Ref sig .tc := ⟨.hbm, 997, rfl⟩
abbrev main_v820 : Ref sig .tc := ⟨.hbm, 998, rfl⟩
abbrev main_v821 : Ref sig .tc := ⟨.hbm, 999, rfl⟩
abbrev main_v822 : Ref sig .tc := ⟨.hbm, 1000, rfl⟩
abbrev main_cst_162 : Ref sig .tc := ⟨.hbm, 1001, rfl⟩
abbrev main_v823 : Ref sig .tc := ⟨.hbm, 1002, rfl⟩
abbrev main_v824 : Ref sig .tc := ⟨.hbm, 1003, rfl⟩
abbrev main_v825 : Ref sig .tc := ⟨.hbm, 1004, rfl⟩
abbrev main_v826 : Ref sig .tc := ⟨.hbm, 1005, rfl⟩
abbrev main_v827 : Ref sig .tc := ⟨.hbm, 1006, rfl⟩
abbrev main_v828 : Ref sig .tc := ⟨.hbm, 1007, rfl⟩
abbrev main_v829 : Ref sig .tc := ⟨.hbm, 1008, rfl⟩
abbrev main_c_163 : Ref sig .tc := ⟨.hbm, 1009, rfl⟩
abbrev main_v830 : Ref sig .tc := ⟨.hbm, 1010, rfl⟩
abbrev main_v831 : Ref sig .tc := ⟨.hbm, 1011, rfl⟩
abbrev main_c_164 : Ref sig .tc := ⟨.hbm, 1012, rfl⟩
abbrev main_v832 : Ref sig .tc := ⟨.hbm, 1013, rfl⟩
abbrev main_v833 : Ref sig .tc := ⟨.hbm, 1014, rfl⟩
abbrev main_v834 : Ref sig .tc := ⟨.hbm, 1015, rfl⟩
abbrev main_v835 : Ref sig .tc := ⟨.hbm, 1016, rfl⟩
abbrev main_v836 : Ref sig .tc := ⟨.hbm, 1017, rfl⟩
abbrev main_v837 : Ref sig .tc := ⟨.hbm, 1018, rfl⟩
abbrev main_v838 : Ref sig .tc := ⟨.hbm, 1019, rfl⟩
abbrev main_v839 : Ref sig .tc := ⟨.hbm, 1020, rfl⟩
abbrev main_cst_165 : Ref sig .tc := ⟨.hbm, 1021, rfl⟩
abbrev main_v840 : Ref sig .tc := ⟨.hbm, 1022, rfl⟩
abbrev main_v841 : Ref sig .tc := ⟨.hbm, 1023, rfl⟩
abbrev main_v842 : Ref sig .tc := ⟨.hbm, 1024, rfl⟩
abbrev main_cst_166 : Ref sig .tc := ⟨.hbm, 1025, rfl⟩
abbrev main_v843 : Ref sig .tc := ⟨.hbm, 1026, rfl⟩
abbrev main_v844 : Ref sig .tc := ⟨.hbm, 1027, rfl⟩
abbrev main_v845 : Ref sig .tc := ⟨.hbm, 1028, rfl⟩
abbrev main_v846 : Ref sig .tc := ⟨.hbm, 1029, rfl⟩
abbrev main_v847 : Ref sig .tc := ⟨.hbm, 1030, rfl⟩
abbrev main_v848 : Ref sig .tc := ⟨.hbm, 1031, rfl⟩
abbrev main_v849 : Ref sig .tc := ⟨.hbm, 1032, rfl⟩
abbrev main_c_167 : Ref sig .tc := ⟨.hbm, 1033, rfl⟩
abbrev main_v850 : Ref sig .tc := ⟨.hbm, 1034, rfl⟩
abbrev main_v851 : Ref sig .tc := ⟨.hbm, 1035, rfl⟩
abbrev main_c_168 : Ref sig .tc := ⟨.hbm, 1036, rfl⟩
abbrev main_v852 : Ref sig .tc := ⟨.hbm, 1037, rfl⟩
abbrev main_v853 : Ref sig .tc := ⟨.hbm, 1038, rfl⟩
abbrev main_v854 : Ref sig .tc := ⟨.hbm, 1039, rfl⟩
abbrev main_v855 : Ref sig .tc := ⟨.hbm, 1040, rfl⟩
abbrev main_v856 : Ref sig .tc := ⟨.hbm, 1041, rfl⟩
abbrev main_v857 : Ref sig .tc := ⟨.hbm, 1042, rfl⟩
abbrev main_v858 : Ref sig .tc := ⟨.hbm, 1043, rfl⟩
abbrev main_v859 : Ref sig .tc := ⟨.hbm, 1044, rfl⟩
abbrev main_cst_169 : Ref sig .tc := ⟨.hbm, 1045, rfl⟩
abbrev main_v860 : Ref sig .tc := ⟨.hbm, 1046, rfl⟩
abbrev main_v861 : Ref sig .tc := ⟨.hbm, 1047, rfl⟩
abbrev main_v862 : Ref sig .tc := ⟨.hbm, 1048, rfl⟩
abbrev main_cst_170 : Ref sig .tc := ⟨.hbm, 1049, rfl⟩
abbrev main_v863 : Ref sig .tc := ⟨.hbm, 1050, rfl⟩
abbrev main_v864 : Ref sig .tc := ⟨.hbm, 1051, rfl⟩
abbrev main_v865 : Ref sig .tc := ⟨.hbm, 1052, rfl⟩
abbrev main_v866 : Ref sig .tc := ⟨.hbm, 1053, rfl⟩
abbrev main_v867 : Ref sig .tc := ⟨.hbm, 1054, rfl⟩
abbrev main_v868 : Ref sig .tc := ⟨.hbm, 1055, rfl⟩
abbrev main_v869 : Ref sig .tc := ⟨.hbm, 1056, rfl⟩
abbrev main_c_171 : Ref sig .tc := ⟨.hbm, 1057, rfl⟩
abbrev main_v870 : Ref sig .tc := ⟨.hbm, 1058, rfl⟩
abbrev main_v871 : Ref sig .tc := ⟨.hbm, 1059, rfl⟩
abbrev main_c_172 : Ref sig .tc := ⟨.hbm, 1060, rfl⟩
abbrev main_v872 : Ref sig .tc := ⟨.hbm, 1061, rfl⟩
abbrev main_v873 : Ref sig .tc := ⟨.hbm, 1062, rfl⟩
abbrev main_v874 : Ref sig .tc := ⟨.hbm, 1063, rfl⟩
abbrev main_v875 : Ref sig .tc := ⟨.hbm, 1064, rfl⟩
abbrev main_v876 : Ref sig .tc := ⟨.hbm, 1065, rfl⟩
abbrev main_v877 : Ref sig .tc := ⟨.hbm, 1066, rfl⟩
abbrev main_v878 : Ref sig .tc := ⟨.hbm, 1067, rfl⟩
abbrev main_v879 : Ref sig .tc := ⟨.hbm, 1068, rfl⟩
abbrev main_cst_173 : Ref sig .tc := ⟨.hbm, 1069, rfl⟩
abbrev main_v880 : Ref sig .tc := ⟨.hbm, 1070, rfl⟩
abbrev main_v881 : Ref sig .tc := ⟨.hbm, 1071, rfl⟩
abbrev main_v882 : Ref sig .tc := ⟨.hbm, 1072, rfl⟩
abbrev main_cst_174 : Ref sig .tc := ⟨.hbm, 1073, rfl⟩
abbrev main_v883 : Ref sig .tc := ⟨.hbm, 1074, rfl⟩
abbrev main_v884 : Ref sig .tc := ⟨.hbm, 1075, rfl⟩
abbrev main_v885 : Ref sig .tc := ⟨.hbm, 1076, rfl⟩
abbrev main_v886 : Ref sig .tc := ⟨.hbm, 1077, rfl⟩
abbrev main_v887 : Ref sig .tc := ⟨.hbm, 1078, rfl⟩
abbrev main_v888 : Ref sig .tc := ⟨.hbm, 1079, rfl⟩
abbrev main_v889 : Ref sig .tc := ⟨.hbm, 1080, rfl⟩
abbrev main_c_175 : Ref sig .tc := ⟨.hbm, 1081, rfl⟩
abbrev main_v890 : Ref sig .tc := ⟨.hbm, 1082, rfl⟩
abbrev main_v891 : Ref sig .tc := ⟨.hbm, 1083, rfl⟩
abbrev main_c_176 : Ref sig .tc := ⟨.hbm, 1084, rfl⟩
abbrev main_v892 : Ref sig .tc := ⟨.hbm, 1085, rfl⟩
abbrev main_v893 : Ref sig .tc := ⟨.hbm, 1086, rfl⟩
abbrev main_v894 : Ref sig .tc := ⟨.hbm, 1087, rfl⟩
abbrev main_v895 : Ref sig .tc := ⟨.hbm, 1088, rfl⟩
abbrev main_v896 : Ref sig .tc := ⟨.hbm, 1089, rfl⟩
abbrev main_v897 : Ref sig .tc := ⟨.hbm, 1090, rfl⟩
abbrev main_v898 : Ref sig .tc := ⟨.hbm, 1091, rfl⟩
abbrev main_v899 : Ref sig .tc := ⟨.hbm, 1092, rfl⟩
abbrev main_cst_177 : Ref sig .tc := ⟨.hbm, 1093, rfl⟩
abbrev main_v900 : Ref sig .tc := ⟨.hbm, 1094, rfl⟩
abbrev main_v901 : Ref sig .tc := ⟨.hbm, 1095, rfl⟩
abbrev main_v902 : Ref sig .tc := ⟨.hbm, 1096, rfl⟩
abbrev main_cst_178 : Ref sig .tc := ⟨.hbm, 1097, rfl⟩
abbrev main_v903 : Ref sig .tc := ⟨.hbm, 1098, rfl⟩
abbrev main_v904 : Ref sig .tc := ⟨.hbm, 1099, rfl⟩
abbrev main_v905 : Ref sig .tc := ⟨.hbm, 1100, rfl⟩
abbrev main_v906 : Ref sig .tc := ⟨.hbm, 1101, rfl⟩
abbrev main_v907 : Ref sig .tc := ⟨.hbm, 1102, rfl⟩
abbrev main_v908 : Ref sig .tc := ⟨.hbm, 1103, rfl⟩
abbrev main_v909 : Ref sig .tc := ⟨.hbm, 1104, rfl⟩
abbrev main_c_179 : Ref sig .tc := ⟨.hbm, 1105, rfl⟩
abbrev main_v910 : Ref sig .tc := ⟨.hbm, 1106, rfl⟩
abbrev main_v911 : Ref sig .tc := ⟨.hbm, 1107, rfl⟩
abbrev main_c_180 : Ref sig .tc := ⟨.hbm, 1108, rfl⟩
abbrev main_v912 : Ref sig .tc := ⟨.hbm, 1109, rfl⟩
abbrev main_v913 : Ref sig .tc := ⟨.hbm, 1110, rfl⟩
abbrev main_v914 : Ref sig .tc := ⟨.hbm, 1111, rfl⟩
abbrev main_v915 : Ref sig .tc := ⟨.hbm, 1112, rfl⟩
abbrev main_v916 : Ref sig .tc := ⟨.hbm, 1113, rfl⟩
abbrev main_v917 : Ref sig .tc := ⟨.hbm, 1114, rfl⟩
abbrev main_v918 : Ref sig .tc := ⟨.hbm, 1115, rfl⟩
abbrev main_v919 : Ref sig .tc := ⟨.hbm, 1116, rfl⟩
abbrev main_cst_181 : Ref sig .tc := ⟨.hbm, 1117, rfl⟩
abbrev main_v920 : Ref sig .tc := ⟨.hbm, 1118, rfl⟩
abbrev main_v921 : Ref sig .tc := ⟨.hbm, 1119, rfl⟩
abbrev main_v922 : Ref sig .tc := ⟨.hbm, 1120, rfl⟩
abbrev main_cst_182 : Ref sig .tc := ⟨.hbm, 1121, rfl⟩
abbrev main_v923 : Ref sig .tc := ⟨.hbm, 1122, rfl⟩
abbrev main_v924 : Ref sig .tc := ⟨.hbm, 1123, rfl⟩
abbrev main_v925 : Ref sig .tc := ⟨.hbm, 1124, rfl⟩
abbrev main_v926 : Ref sig .tc := ⟨.hbm, 1125, rfl⟩
abbrev main_v927 : Ref sig .tc := ⟨.hbm, 1126, rfl⟩
abbrev main_v928 : Ref sig .tc := ⟨.hbm, 1127, rfl⟩
abbrev main_v929 : Ref sig .tc := ⟨.hbm, 1128, rfl⟩
abbrev main_c_183 : Ref sig .tc := ⟨.hbm, 1129, rfl⟩
abbrev main_v930 : Ref sig .tc := ⟨.hbm, 1130, rfl⟩
abbrev main_v931 : Ref sig .tc := ⟨.hbm, 1131, rfl⟩
abbrev main_c_184 : Ref sig .tc := ⟨.hbm, 1132, rfl⟩
abbrev main_v932 : Ref sig .tc := ⟨.hbm, 1133, rfl⟩
abbrev main_v933 : Ref sig .tc := ⟨.hbm, 1134, rfl⟩
abbrev main_v934 : Ref sig .tc := ⟨.hbm, 1135, rfl⟩
abbrev main_v935 : Ref sig .tc := ⟨.hbm, 1136, rfl⟩
abbrev main_v936 : Ref sig .tc := ⟨.hbm, 1137, rfl⟩
abbrev main_v937 : Ref sig .tc := ⟨.hbm, 1138, rfl⟩
abbrev main_v938 : Ref sig .tc := ⟨.hbm, 1139, rfl⟩
abbrev main_v939 : Ref sig .tc := ⟨.hbm, 1140, rfl⟩
abbrev main_cst_185 : Ref sig .tc := ⟨.hbm, 1141, rfl⟩
abbrev main_v940 : Ref sig .tc := ⟨.hbm, 1142, rfl⟩
abbrev main_v941 : Ref sig .tc := ⟨.hbm, 1143, rfl⟩
abbrev main_v942 : Ref sig .tc := ⟨.hbm, 1144, rfl⟩
abbrev main_cst_186 : Ref sig .tc := ⟨.hbm, 1145, rfl⟩
abbrev main_v943 : Ref sig .tc := ⟨.hbm, 1146, rfl⟩
abbrev main_v944 : Ref sig .tc := ⟨.hbm, 1147, rfl⟩
abbrev main_v945 : Ref sig .tc := ⟨.hbm, 1148, rfl⟩
abbrev main_v946 : Ref sig .tc := ⟨.hbm, 1149, rfl⟩
abbrev main_v947 : Ref sig .tc := ⟨.hbm, 1150, rfl⟩
abbrev main_v948 : Ref sig .tc := ⟨.hbm, 1151, rfl⟩
abbrev main_v949 : Ref sig .tc := ⟨.hbm, 1152, rfl⟩
abbrev main_c_187 : Ref sig .tc := ⟨.hbm, 1153, rfl⟩
abbrev main_v950 : Ref sig .tc := ⟨.hbm, 1154, rfl⟩
abbrev main_v951 : Ref sig .tc := ⟨.hbm, 1155, rfl⟩
abbrev main_c_188 : Ref sig .tc := ⟨.hbm, 1156, rfl⟩
abbrev main_v952 : Ref sig .tc := ⟨.hbm, 1157, rfl⟩
abbrev main_v953 : Ref sig .tc := ⟨.hbm, 1158, rfl⟩
abbrev main_v954 : Ref sig .tc := ⟨.hbm, 1159, rfl⟩
abbrev main_v955 : Ref sig .tc := ⟨.hbm, 1160, rfl⟩
abbrev main_v956 : Ref sig .tc := ⟨.hbm, 1161, rfl⟩
abbrev main_v957 : Ref sig .tc := ⟨.hbm, 1162, rfl⟩
abbrev main_v958 : Ref sig .tc := ⟨.hbm, 1163, rfl⟩
abbrev main_v959 : Ref sig .tc := ⟨.hbm, 1164, rfl⟩
abbrev main_cst_189 : Ref sig .tc := ⟨.hbm, 1165, rfl⟩
abbrev main_v960 : Ref sig .tc := ⟨.hbm, 1166, rfl⟩
abbrev main_v961 : Ref sig .tc := ⟨.hbm, 1167, rfl⟩
abbrev main_v962 : Ref sig .tc := ⟨.hbm, 1168, rfl⟩
abbrev main_cst_190 : Ref sig .tc := ⟨.hbm, 1169, rfl⟩
abbrev main_v963 : Ref sig .tc := ⟨.hbm, 1170, rfl⟩
abbrev main_v964 : Ref sig .tc := ⟨.hbm, 1171, rfl⟩
abbrev main_v965 : Ref sig .tc := ⟨.hbm, 1172, rfl⟩
abbrev main_v966 : Ref sig .tc := ⟨.hbm, 1173, rfl⟩
abbrev main_v967 : Ref sig .tc := ⟨.hbm, 1174, rfl⟩
abbrev main_v968 : Ref sig .tc := ⟨.hbm, 1175, rfl⟩
abbrev main_v969 : Ref sig .tc := ⟨.hbm, 1176, rfl⟩
abbrev main_c_191 : Ref sig .tc := ⟨.hbm, 1177, rfl⟩
abbrev main_v970 : Ref sig .tc := ⟨.hbm, 1178, rfl⟩
abbrev main_v971 : Ref sig .tc := ⟨.hbm, 1179, rfl⟩
abbrev main_c_192 : Ref sig .tc := ⟨.hbm, 1180, rfl⟩
abbrev main_v972 : Ref sig .tc := ⟨.hbm, 1181, rfl⟩
abbrev main_v973 : Ref sig .tc := ⟨.hbm, 1182, rfl⟩
abbrev main_v974 : Ref sig .tc := ⟨.hbm, 1183, rfl⟩
abbrev main_v975 : Ref sig .tc := ⟨.hbm, 1184, rfl⟩
abbrev main_v976 : Ref sig .tc := ⟨.hbm, 1185, rfl⟩
abbrev main_v977 : Ref sig .tc := ⟨.hbm, 1186, rfl⟩
abbrev main_v978 : Ref sig .tc := ⟨.hbm, 1187, rfl⟩
abbrev main_v979 : Ref sig .tc := ⟨.hbm, 1188, rfl⟩
abbrev main_cst_193 : Ref sig .tc := ⟨.hbm, 1189, rfl⟩
abbrev main_v980 : Ref sig .tc := ⟨.hbm, 1190, rfl⟩
abbrev main_v981 : Ref sig .tc := ⟨.hbm, 1191, rfl⟩
abbrev main_v982 : Ref sig .tc := ⟨.hbm, 1192, rfl⟩
abbrev main_cst_194 : Ref sig .tc := ⟨.hbm, 1193, rfl⟩
abbrev main_v983 : Ref sig .tc := ⟨.hbm, 1194, rfl⟩
abbrev main_v984 : Ref sig .tc := ⟨.hbm, 1195, rfl⟩
abbrev main_v985 : Ref sig .tc := ⟨.hbm, 1196, rfl⟩
abbrev main_v986 : Ref sig .tc := ⟨.hbm, 1197, rfl⟩
abbrev main_v987 : Ref sig .tc := ⟨.hbm, 1198, rfl⟩
abbrev main_v988 : Ref sig .tc := ⟨.hbm, 1199, rfl⟩
abbrev main_v989 : Ref sig .tc := ⟨.hbm, 1200, rfl⟩
abbrev main_c_195 : Ref sig .tc := ⟨.hbm, 1201, rfl⟩
abbrev main_v990 : Ref sig .tc := ⟨.hbm, 1202, rfl⟩
abbrev main_v991 : Ref sig .tc := ⟨.hbm, 1203, rfl⟩
abbrev main_c_196 : Ref sig .tc := ⟨.hbm, 1204, rfl⟩
abbrev main_v992 : Ref sig .tc := ⟨.hbm, 1205, rfl⟩
abbrev main_v993 : Ref sig .tc := ⟨.hbm, 1206, rfl⟩
abbrev main_v994 : Ref sig .tc := ⟨.hbm, 1207, rfl⟩
abbrev main_v995 : Ref sig .tc := ⟨.hbm, 1208, rfl⟩
abbrev main_v996 : Ref sig .tc := ⟨.hbm, 1209, rfl⟩
abbrev main_v997 : Ref sig .tc := ⟨.hbm, 1210, rfl⟩
abbrev main_v998 : Ref sig .tc := ⟨.hbm, 1211, rfl⟩
abbrev main_v999 : Ref sig .tc := ⟨.hbm, 1212, rfl⟩
abbrev main_cst_197 : Ref sig .tc := ⟨.hbm, 1213, rfl⟩
abbrev main_v1000 : Ref sig .tc := ⟨.hbm, 1214, rfl⟩
abbrev main_v1001 : Ref sig .tc := ⟨.hbm, 1215, rfl⟩
abbrev main_v1002 : Ref sig .tc := ⟨.hbm, 1216, rfl⟩
abbrev main_cst_198 : Ref sig .tc := ⟨.hbm, 1217, rfl⟩
abbrev main_v1003 : Ref sig .tc := ⟨.hbm, 1218, rfl⟩
abbrev main_v1004 : Ref sig .tc := ⟨.hbm, 1219, rfl⟩
abbrev main_v1005 : Ref sig .tc := ⟨.hbm, 1220, rfl⟩
abbrev main_v1006 : Ref sig .tc := ⟨.hbm, 1221, rfl⟩
abbrev main_v1007 : Ref sig .tc := ⟨.hbm, 1222, rfl⟩
abbrev main_v1008 : Ref sig .tc := ⟨.hbm, 1223, rfl⟩
abbrev main_v1009 : Ref sig .tc := ⟨.hbm, 1224, rfl⟩
abbrev main_v1010 : Ref sig .tc := ⟨.hbm, 1225, rfl⟩
abbrev main_v1011 : Ref sig .tc := ⟨.hbm, 1226, rfl⟩
abbrev main_v1012 : Ref sig .tc := ⟨.hbm, 1227, rfl⟩
abbrev main_call2_cst : Ref sig .tc := ⟨.hbm, 1228, rfl⟩
abbrev main_call2_v0 : Ref sig .tc := ⟨.hbm, 1229, rfl⟩
abbrev main_v1013 : Ref sig .tc := ⟨.hbm, 1230, rfl⟩
abbrev main_v1014 : Ref sig .tc := ⟨.hbm, 1231, rfl⟩
abbrev main_v1015 : Ref sig .tc := ⟨.hbm, 1232, rfl⟩
abbrev main_v1016 : Ref sig .tc := ⟨.hbm, 1233, rfl⟩
abbrev main_v1017 : Ref sig .tc := ⟨.hbm, 1234, rfl⟩
abbrev main_v1018 : Ref sig .tc := ⟨.hbm, 1235, rfl⟩
abbrev main_v1019 : Ref sig .tc := ⟨.hbm, 1236, rfl⟩
abbrev main_v1020 : Ref sig .tc := ⟨.hbm, 1237, rfl⟩
abbrev main_call3_cst : Ref sig .tc := ⟨.hbm, 1238, rfl⟩
abbrev main_call3_v0 : Ref sig .tc := ⟨.hbm, 1239, rfl⟩
abbrev main_call3_cst_0 : Ref sig .tc := ⟨.hbm, 1240, rfl⟩
abbrev main_call3_v1 : Ref sig .tc := ⟨.hbm, 1241, rfl⟩
abbrev main_call3_v2 : Ref sig .tc := ⟨.hbm, 1242, rfl⟩
abbrev main_call3_v3 : Ref sig .tc := ⟨.hbm, 1243, rfl⟩
abbrev main_call3_v4 : Ref sig .tc := ⟨.hbm, 1244, rfl⟩
abbrev main_call3_v5 : Ref sig .tc := ⟨.hbm, 1245, rfl⟩
abbrev main_call3_v6 : Ref sig .tc := ⟨.hbm, 1246, rfl⟩
abbrev main_call3_cst_1 : Ref sig .tc := ⟨.hbm, 1247, rfl⟩
abbrev main_call3_v7 : Ref sig .tc := ⟨.hbm, 1248, rfl⟩
abbrev main_call3_v8 : Ref sig .tc := ⟨.hbm, 1249, rfl⟩
abbrev main_call3_v9 : Ref sig .tc := ⟨.hbm, 1250, rfl⟩
abbrev main_call3_v10 : Ref sig .tc := ⟨.hbm, 1251, rfl⟩
abbrev main_v1021 : Ref sig .tc := ⟨.hbm, 1252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x10000x15 : Shape := ⟨3, ![8, 10000, 15]⟩
abbrev S2x320000 : Shape := ⟨2, ![2, 320000]⟩
abbrev S25x15x32 : Shape := ⟨3, ![25, 15, 32]⟩
abbrev S32 : Shape := ⟨1, ![32]⟩
abbrev S25x32x64 : Shape := ⟨3, ![25, 32, 64]⟩
abbrev S64 : Shape := ⟨1, ![64]⟩
abbrev S640000x512 : Shape := ⟨2, ![640000, 512]⟩
abbrev S512 : Shape := ⟨1, ![512]⟩
abbrev S512x6 : Shape := ⟨2, ![512, 6]⟩
abbrev S6 : Shape := ⟨1, ![6]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S15 : Shape := ⟨1, ![15]⟩
abbrev S15x1 : Shape := ⟨2, ![15, 1]⟩
abbrev S1x15 : Shape := ⟨2, ![1, 15]⟩
abbrev S15x15 : Shape := ⟨2, ![15, 15]⟩
abbrev S10000x8x15 : Shape := ⟨3, ![10000, 8, 15]⟩
abbrev S1x15x32 : Shape := ⟨3, ![1, 15, 32]⟩
abbrev S15x32 : Shape := ⟨2, ![15, 32]⟩
abbrev S10000x8x32 : Shape := ⟨3, ![10000, 8, 32]⟩
abbrev S320000x8x15 : Shape := ⟨3, ![320000, 8, 15]⟩
abbrev S320000x1x1 : Shape := ⟨3, ![320000, 1, 1]⟩
abbrev S1x1x32 : Shape := ⟨3, ![1, 1, 32]⟩
abbrev S1x32x64 : Shape := ⟨3, ![1, 32, 64]⟩
abbrev S32x64 : Shape := ⟨2, ![32, 64]⟩
abbrev S10000x8x64 : Shape := ⟨3, ![10000, 8, 64]⟩
abbrev S320000x8x32 : Shape := ⟨3, ![320000, 8, 32]⟩
abbrev S1x1x64 : Shape := ⟨3, ![1, 1, 64]⟩
abbrev S8x10000x64 : Shape := ⟨3, ![8, 10000, 64]⟩
abbrev S8x640000 : Shape := ⟨2, ![8, 640000]⟩
abbrev S8x512 : Shape := ⟨2, ![8, 512]⟩
abbrev S1x512 : Shape := ⟨2, ![1, 512]⟩
abbrev S8x6 : Shape := ⟨2, ![8, 6]⟩
abbrev S1x6 : Shape := ⟨2, ![1, 6]⟩
abbrev S8 : Shape := ⟨1, ![8]⟩
abbrev S8x1 : Shape := ⟨2, ![8, 1]⟩

abbrev nBuf : Space → Nat
  | .hbm => 1256
  | .vmem => 0
  | .smem => 0
  | _ => 0

abbrev hbmTy0_0 (i : Nat) : BufTy := match i % 128 with
  | 0 => ⟨S8x10000x15, .f32⟩
  | 1 => ⟨S2x320000, .i32⟩
  | 2 => ⟨S25x15x32, .f32⟩
  | 3 => ⟨S32, .f32⟩
  | 4 => ⟨S25x32x64, .f32⟩
  | 5 => ⟨S64, .f32⟩
  | 6 => ⟨S640000x512, .f32⟩
  | 7 => ⟨S512, .f32⟩
  | 8 => ⟨S512x6, .f32⟩
  | 9 => ⟨S6, .f32⟩
  | 10 => ⟨S1x320000, .i32⟩
  | 11 => ⟨S320000, .i32⟩
  | 12 => ⟨S1x320000, .i32⟩
  | 13 => ⟨S320000, .i32⟩
  | 14 => ⟨S_, .f32⟩
  | 15 => ⟨S320000, .f32⟩
  | 16 => ⟨S_, .f32⟩
  | 17 => ⟨S10000, .f32⟩
  | 18 => ⟨S320000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S10000, .f32⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S15, .i32⟩
  | 52 => ⟨S15, .i32⟩
  | 53 => ⟨S15x1, .i32⟩
  | 54 => ⟨S1x15, .i32⟩
  | 55 => ⟨S15x15, .i32⟩
  | 56 => ⟨S15x15, .i32⟩
  | 57 => ⟨S15x15, .i32⟩
  | 58 => ⟨S15x15, .f32⟩
  | 59 => ⟨S_, .f32⟩
  | 60 => ⟨S15x15, .f32⟩
  | 61 => ⟨S15x15, .f32⟩
  | 62 => ⟨S_, .f32⟩
  | 63 => ⟨S15x15, .f32⟩
  | 64 => ⟨S15x15, .f32⟩
  | 65 => ⟨S15x15, .f32⟩
  | 66 => ⟨S15x15, .f32⟩
  | 67 => ⟨S8x10000x15, .f32⟩
  | 68 => ⟨S10000x8x15, .f32⟩
  | 69 => ⟨S1x15x32, .f32⟩
  | 70 => ⟨S15x32, .f32⟩
  | 71 => ⟨S10000x8x32, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x8x15, .f32⟩
  | 81 => ⟨S320000x1x1, .f32⟩
  | 82 => ⟨S320000x8x15, .f32⟩
  | 83 => ⟨S320000x8x15, .f32⟩
  | 84 => ⟨S_, .f32⟩
  | 85 => ⟨S10000x8x15, .f32⟩
  | 86 => ⟨S320000x1, .i32⟩
  | 87 => ⟨S10000x8x15, .f32⟩
  | 88 => ⟨S1x15x32, .f32⟩
  | 89 => ⟨S15x32, .f32⟩
  | 90 => ⟨S10000x8x32, .f32⟩
  | 91 => ⟨S10000x8x32, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x8x15, .f32⟩
  | 101 => ⟨S320000x1x1, .f32⟩
  | 102 => ⟨S320000x8x15, .f32⟩
  | 103 => ⟨S320000x8x15, .f32⟩
  | 104 => ⟨S_, .f32⟩
  | 105 => ⟨S10000x8x15, .f32⟩
  | 106 => ⟨S320000x1, .i32⟩
  | 107 => ⟨S10000x8x15, .f32⟩
  | 108 => ⟨S_, .f32⟩
  | 109 => ⟨S10000x8x15, .f32⟩
  | 110 => ⟨S10000x8x15, .f32⟩
  | 111 => ⟨S10000x8x15, .f32⟩
  | 112 => ⟨S1x15x32, .f32⟩
  | 113 => ⟨S15x32, .f32⟩
  | 114 => ⟨S10000x8x32, .f32⟩
  | 115 => ⟨S10000x8x32, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x8x15, .f32⟩
  | 125 => ⟨S320000x1x1, .f32⟩
  | 126 => ⟨S320000x8x15, .f32⟩
  | 127 => ⟨S320000x8x15, .f32⟩
  | _ => ⟨S8x10000x15, .f32⟩

abbrev hbmTy0_1 (i : Nat) : BufTy := match i % 128 with
  | 0 => ⟨S_, .f32⟩
  | 1 => ⟨S10000x8x15, .f32⟩
  | 2 => ⟨S320000x1, .i32⟩
  | 3 => ⟨S10000x8x15, .f32⟩
  | 4 => ⟨S_, .f32⟩
  | 5 => ⟨S10000x8x15, .f32⟩
  | 6 => ⟨S10000x8x15, .f32⟩
  | 7 => ⟨S10000x8x15, .f32⟩
  | 8 => ⟨S1x15x32, .f32⟩
  | 9 => ⟨S15x32, .f32⟩
  | 10 => ⟨S10000x8x32, .f32⟩
  | 11 => ⟨S10000x8x32, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8x15, .f32⟩
  | 21 => ⟨S320000x1x1, .f32⟩
  | 22 => ⟨S320000x8x15, .f32⟩
  | 23 => ⟨S320000x8x15, .f32⟩
  | 24 => ⟨S_, .f32⟩
  | 25 => ⟨S10000x8x15, .f32⟩
  | 26 => ⟨S320000x1, .i32⟩
  | 27 => ⟨S10000x8x15, .f32⟩
  | 28 => ⟨S_, .f32⟩
  | 29 => ⟨S10000x8x15, .f32⟩
  | 30 => ⟨S10000x8x15, .f32⟩
  | 31 => ⟨S10000x8x15, .f32⟩
  | 32 => ⟨S1x15x32, .f32⟩
  | 33 => ⟨S15x32, .f32⟩
  | 34 => ⟨S10000x8x32, .f32⟩
  | 35 => ⟨S10000x8x32, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x8x15, .f32⟩
  | 45 => ⟨S320000x1x1, .f32⟩
  | 46 => ⟨S320000x8x15, .f32⟩
  | 47 => ⟨S320000x8x15, .f32⟩
  | 48 => ⟨S_, .f32⟩
  | 49 => ⟨S10000x8x15, .f32⟩
  | 50 => ⟨S320000x1, .i32⟩
  | 51 => ⟨S10000x8x15, .f32⟩
  | 52 => ⟨S_, .f32⟩
  | 53 => ⟨S10000x8x15, .f32⟩
  | 54 => ⟨S10000x8x15, .f32⟩
  | 55 => ⟨S10000x8x15, .f32⟩
  | 56 => ⟨S1x15x32, .f32⟩
  | 57 => ⟨S15x32, .f32⟩
  | 58 => ⟨S10000x8x32, .f32⟩
  | 59 => ⟨S10000x8x32, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x8x15, .f32⟩
  | 69 => ⟨S320000x1x1, .f32⟩
  | 70 => ⟨S320000x8x15, .f32⟩
  | 71 => ⟨S320000x8x15, .f32⟩
  | 72 => ⟨S_, .f32⟩
  | 73 => ⟨S10000x8x15, .f32⟩
  | 74 => ⟨S320000x1, .i32⟩
  | 75 => ⟨S10000x8x15, .f32⟩
  | 76 => ⟨S_, .f32⟩
  | 77 => ⟨S10000x8x15, .f32⟩
  | 78 => ⟨S10000x8x15, .f32⟩
  | 79 => ⟨S10000x8x15, .f32⟩
  | 80 => ⟨S1x15x32, .f32⟩
  | 81 => ⟨S15x32, .f32⟩
  | 82 => ⟨S10000x8x32, .f32⟩
  | 83 => ⟨S10000x8x32, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x8x15, .f32⟩
  | 93 => ⟨S320000x1x1, .f32⟩
  | 94 => ⟨S320000x8x15, .f32⟩
  | 95 => ⟨S320000x8x15, .f32⟩
  | 96 => ⟨S_, .f32⟩
  | 97 => ⟨S10000x8x15, .f32⟩
  | 98 => ⟨S320000x1, .i32⟩
  | 99 => ⟨S10000x8x15, .f32⟩
  | 100 => ⟨S_, .f32⟩
  | 101 => ⟨S10000x8x15, .f32⟩
  | 102 => ⟨S10000x8x15, .f32⟩
  | 103 => ⟨S10000x8x15, .f32⟩
  | 104 => ⟨S1x15x32, .f32⟩
  | 105 => ⟨S15x32, .f32⟩
  | 106 => ⟨S10000x8x32, .f32⟩
  | 107 => ⟨S10000x8x32, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x8x15, .f32⟩
  | 117 => ⟨S320000x1x1, .f32⟩
  | 118 => ⟨S320000x8x15, .f32⟩
  | 119 => ⟨S320000x8x15, .f32⟩
  | 120 => ⟨S_, .f32⟩
  | 121 => ⟨S10000x8x15, .f32⟩
  | 122 => ⟨S320000x1, .i32⟩
  | 123 => ⟨S10000x8x15, .f32⟩
  | 124 => ⟨S_, .f32⟩
  | 125 => ⟨S10000x8x15, .f32⟩
  | 126 => ⟨S10000x8x15, .f32⟩
  | 127 => ⟨S10000x8x15, .f32⟩
  | _ => ⟨S8x10000x15, .f32⟩

abbrev hbmTy0_2 (i : Nat) : BufTy := match i % 128 with
  | 0 => ⟨S1x15x32, .f32⟩
  | 1 => ⟨S15x32, .f32⟩
  | 2 => ⟨S10000x8x32, .f32⟩
  | 3 => ⟨S10000x8x32, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x8x15, .f32⟩
  | 13 => ⟨S320000x1x1, .f32⟩
  | 14 => ⟨S320000x8x15, .f32⟩
  | 15 => ⟨S320000x8x15, .f32⟩
  | 16 => ⟨S_, .f32⟩
  | 17 => ⟨S10000x8x15, .f32⟩
  | 18 => ⟨S320000x1, .i32⟩
  | 19 => ⟨S10000x8x15, .f32⟩
  | 20 => ⟨S_, .f32⟩
  | 21 => ⟨S10000x8x15, .f32⟩
  | 22 => ⟨S10000x8x15, .f32⟩
  | 23 => ⟨S10000x8x15, .f32⟩
  | 24 => ⟨S1x15x32, .f32⟩
  | 25 => ⟨S15x32, .f32⟩
  | 26 => ⟨S10000x8x32, .f32⟩
  | 27 => ⟨S10000x8x32, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x8x15, .f32⟩
  | 37 => ⟨S320000x1x1, .f32⟩
  | 38 => ⟨S320000x8x15, .f32⟩
  | 39 => ⟨S320000x8x15, .f32⟩
  | 40 => ⟨S_, .f32⟩
  | 41 => ⟨S10000x8x15, .f32⟩
  | 42 => ⟨S320000x1, .i32⟩
  | 43 => ⟨S10000x8x15, .f32⟩
  | 44 => ⟨S_, .f32⟩
  | 45 => ⟨S10000x8x15, .f32⟩
  | 46 => ⟨S10000x8x15, .f32⟩
  | 47 => ⟨S10000x8x15, .f32⟩
  | 48 => ⟨S1x15x32, .f32⟩
  | 49 => ⟨S15x32, .f32⟩
  | 50 => ⟨S10000x8x32, .f32⟩
  | 51 => ⟨S10000x8x32, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x8x15, .f32⟩
  | 61 => ⟨S320000x1x1, .f32⟩
  | 62 => ⟨S320000x8x15, .f32⟩
  | 63 => ⟨S320000x8x15, .f32⟩
  | 64 => ⟨S_, .f32⟩
  | 65 => ⟨S10000x8x15, .f32⟩
  | 66 => ⟨S320000x1, .i32⟩
  | 67 => ⟨S10000x8x15, .f32⟩
  | 68 => ⟨S_, .f32⟩
  | 69 => ⟨S10000x8x15, .f32⟩
  | 70 => ⟨S10000x8x15, .f32⟩
  | 71 => ⟨S10000x8x15, .f32⟩
  | 72 => ⟨S1x15x32, .f32⟩
  | 73 => ⟨S15x32, .f32⟩
  | 74 => ⟨S10000x8x32, .f32⟩
  | 75 => ⟨S10000x8x32, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x8x15, .f32⟩
  | 85 => ⟨S320000x1x1, .f32⟩
  | 86 => ⟨S320000x8x15, .f32⟩
  | 87 => ⟨S320000x8x15, .f32⟩
  | 88 => ⟨S_, .f32⟩
  | 89 => ⟨S10000x8x15, .f32⟩
  | 90 => ⟨S320000x1, .i32⟩
  | 91 => ⟨S10000x8x15, .f32⟩
  | 92 => ⟨S_, .f32⟩
  | 93 => ⟨S10000x8x15, .f32⟩
  | 94 => ⟨S10000x8x15, .f32⟩
  | 95 => ⟨S10000x8x15, .f32⟩
  | 96 => ⟨S1x15x32, .f32⟩
  | 97 => ⟨S15x32, .f32⟩
  | 98 => ⟨S10000x8x32, .f32⟩
  | 99 => ⟨S10000x8x32, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x8x15, .f32⟩
  | 109 => ⟨S320000x1x1, .f32⟩
  | 110 => ⟨S320000x8x15, .f32⟩
  | 111 => ⟨S320000x8x15, .f32⟩
  | 112 => ⟨S_, .f32⟩
  | 113 => ⟨S10000x8x15, .f32⟩
  | 114 => ⟨S320000x1, .i32⟩
  | 115 => ⟨S10000x8x15, .f32⟩
  | 116 => ⟨S_, .f32⟩
  | 117 => ⟨S10000x8x15, .f32⟩
  | 118 => ⟨S10000x8x15, .f32⟩
  | 119 => ⟨S10000x8x15, .f32⟩
  | 120 => ⟨S1x15x32, .f32⟩
  | 121 => ⟨S15x32, .f32⟩
  | 122 => ⟨S10000x8x32, .f32⟩
  | 123 => ⟨S10000x8x32, .f32⟩
  | 124 => ⟨S_, .i32⟩
  | 125 => ⟨S320000, .i32⟩
  | 126 => ⟨S320000, .i1⟩
  | 127 => ⟨S_, .i32⟩
  | _ => ⟨S8x10000x15, .f32⟩

abbrev hbmTy0_3 (i : Nat) : BufTy := match i % 128 with
  | 0 => ⟨S320000, .i32⟩
  | 1 => ⟨S320000, .i32⟩
  | 2 => ⟨S320000, .i32⟩
  | 3 => ⟨S320000x1, .i32⟩
  | 4 => ⟨S320000x8x15, .f32⟩
  | 5 => ⟨S320000x1x1, .f32⟩
  | 6 => ⟨S320000x8x15, .f32⟩
  | 7 => ⟨S320000x8x15, .f32⟩
  | 8 => ⟨S_, .f32⟩
  | 9 => ⟨S10000x8x15, .f32⟩
  | 10 => ⟨S320000x1, .i32⟩
  | 11 => ⟨S10000x8x15, .f32⟩
  | 12 => ⟨S_, .f32⟩
  | 13 => ⟨S10000x8x15, .f32⟩
  | 14 => ⟨S10000x8x15, .f32⟩
  | 15 => ⟨S10000x8x15, .f32⟩
  | 16 => ⟨S1x15x32, .f32⟩
  | 17 => ⟨S15x32, .f32⟩
  | 18 => ⟨S10000x8x32, .f32⟩
  | 19 => ⟨S10000x8x32, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x8x15, .f32⟩
  | 29 => ⟨S320000x1x1, .f32⟩
  | 30 => ⟨S320000x8x15, .f32⟩
  | 31 => ⟨S320000x8x15, .f32⟩
  | 32 => ⟨S_, .f32⟩
  | 33 => ⟨S10000x8x15, .f32⟩
  | 34 => ⟨S320000x1, .i32⟩
  | 35 => ⟨S10000x8x15, .f32⟩
  | 36 => ⟨S_, .f32⟩
  | 37 => ⟨S10000x8x15, .f32⟩
  | 38 => ⟨S10000x8x15, .f32⟩
  | 39 => ⟨S10000x8x15, .f32⟩
  | 40 => ⟨S1x15x32, .f32⟩
  | 41 => ⟨S15x32, .f32⟩
  | 42 => ⟨S10000x8x32, .f32⟩
  | 43 => ⟨S10000x8x32, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x8x15, .f32⟩
  | 53 => ⟨S320000x1x1, .f32⟩
  | 54 => ⟨S320000x8x15, .f32⟩
  | 55 => ⟨S320000x8x15, .f32⟩
  | 56 => ⟨S_, .f32⟩
  | 57 => ⟨S10000x8x15, .f32⟩
  | 58 => ⟨S320000x1, .i32⟩
  | 59 => ⟨S10000x8x15, .f32⟩
  | 60 => ⟨S_, .f32⟩
  | 61 => ⟨S10000x8x15, .f32⟩
  | 62 => ⟨S10000x8x15, .f32⟩
  | 63 => ⟨S10000x8x15, .f32⟩
  | 64 => ⟨S1x15x32, .f32⟩
  | 65 => ⟨S15x32, .f32⟩
  | 66 => ⟨S10000x8x32, .f32⟩
  | 67 => ⟨S10000x8x32, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x8x15, .f32⟩
  | 77 => ⟨S320000x1x1, .f32⟩
  | 78 => ⟨S320000x8x15, .f32⟩
  | 79 => ⟨S320000x8x15, .f32⟩
  | 80 => ⟨S_, .f32⟩
  | 81 => ⟨S10000x8x15, .f32⟩
  | 82 => ⟨S320000x1, .i32⟩
  | 83 => ⟨S10000x8x15, .f32⟩
  | 84 => ⟨S_, .f32⟩
  | 85 => ⟨S10000x8x15, .f32⟩
  | 86 => ⟨S10000x8x15, .f32⟩
  | 87 => ⟨S10000x8x15, .f32⟩
  | 88 => ⟨S1x15x32, .f32⟩
  | 89 => ⟨S15x32, .f32⟩
  | 90 => ⟨S10000x8x32, .f32⟩
  | 91 => ⟨S10000x8x32, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x8x15, .f32⟩
  | 101 => ⟨S320000x1x1, .f32⟩
  | 102 => ⟨S320000x8x15, .f32⟩
  | 103 => ⟨S320000x8x15, .f32⟩
  | 104 => ⟨S_, .f32⟩
  | 105 => ⟨S10000x8x15, .f32⟩
  | 106 => ⟨S320000x1, .i32⟩
  | 107 => ⟨S10000x8x15, .f32⟩
  | 108 => ⟨S_, .f32⟩
  | 109 => ⟨S10000x8x15, .f32⟩
  | 110 => ⟨S10000x8x15, .f32⟩
  | 111 => ⟨S10000x8x15, .f32⟩
  | 112 => ⟨S1x15x32, .f32⟩
  | 113 => ⟨S15x32, .f32⟩
  | 114 => ⟨S10000x8x32, .f32⟩
  | 115 => ⟨S10000x8x32, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x8x15, .f32⟩
  | 125 => ⟨S320000x1x1, .f32⟩
  | 126 => ⟨S320000x8x15, .f32⟩
  | 127 => ⟨S320000x8x15, .f32⟩
  | _ => ⟨S8x10000x15, .f32⟩

abbrev hbmTy0_4 (i : Nat) : BufTy := match i % 128 with
  | 0 => ⟨S_, .f32⟩
  | 1 => ⟨S10000x8x15, .f32⟩
  | 2 => ⟨S320000x1, .i32⟩
  | 3 => ⟨S10000x8x15, .f32⟩
  | 4 => ⟨S_, .f32⟩
  | 5 => ⟨S10000x8x15, .f32⟩
  | 6 => ⟨S10000x8x15, .f32⟩
  | 7 => ⟨S10000x8x15, .f32⟩
  | 8 => ⟨S1x15x32, .f32⟩
  | 9 => ⟨S15x32, .f32⟩
  | 10 => ⟨S10000x8x32, .f32⟩
  | 11 => ⟨S10000x8x32, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8x15, .f32⟩
  | 21 => ⟨S320000x1x1, .f32⟩
  | 22 => ⟨S320000x8x15, .f32⟩
  | 23 => ⟨S320000x8x15, .f32⟩
  | 24 => ⟨S_, .f32⟩
  | 25 => ⟨S10000x8x15, .f32⟩
  | 26 => ⟨S320000x1, .i32⟩
  | 27 => ⟨S10000x8x15, .f32⟩
  | 28 => ⟨S_, .f32⟩
  | 29 => ⟨S10000x8x15, .f32⟩
  | 30 => ⟨S10000x8x15, .f32⟩
  | 31 => ⟨S10000x8x15, .f32⟩
  | 32 => ⟨S1x15x32, .f32⟩
  | 33 => ⟨S15x32, .f32⟩
  | 34 => ⟨S10000x8x32, .f32⟩
  | 35 => ⟨S10000x8x32, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x8x15, .f32⟩
  | 45 => ⟨S320000x1x1, .f32⟩
  | 46 => ⟨S320000x8x15, .f32⟩
  | 47 => ⟨S320000x8x15, .f32⟩
  | 48 => ⟨S_, .f32⟩
  | 49 => ⟨S10000x8x15, .f32⟩
  | 50 => ⟨S320000x1, .i32⟩
  | 51 => ⟨S10000x8x15, .f32⟩
  | 52 => ⟨S_, .f32⟩
  | 53 => ⟨S10000x8x15, .f32⟩
  | 54 => ⟨S10000x8x15, .f32⟩
  | 55 => ⟨S10000x8x15, .f32⟩
  | 56 => ⟨S1x15x32, .f32⟩
  | 57 => ⟨S15x32, .f32⟩
  | 58 => ⟨S10000x8x32, .f32⟩
  | 59 => ⟨S10000x8x32, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x8x15, .f32⟩
  | 69 => ⟨S320000x1x1, .f32⟩
  | 70 => ⟨S320000x8x15, .f32⟩
  | 71 => ⟨S320000x8x15, .f32⟩
  | 72 => ⟨S_, .f32⟩
  | 73 => ⟨S10000x8x15, .f32⟩
  | 74 => ⟨S320000x1, .i32⟩
  | 75 => ⟨S10000x8x15, .f32⟩
  | 76 => ⟨S_, .f32⟩
  | 77 => ⟨S10000x8x15, .f32⟩
  | 78 => ⟨S10000x8x15, .f32⟩
  | 79 => ⟨S10000x8x15, .f32⟩
  | 80 => ⟨S1x15x32, .f32⟩
  | 81 => ⟨S15x32, .f32⟩
  | 82 => ⟨S10000x8x32, .f32⟩
  | 83 => ⟨S10000x8x32, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x8x15, .f32⟩
  | 93 => ⟨S320000x1x1, .f32⟩
  | 94 => ⟨S320000x8x15, .f32⟩
  | 95 => ⟨S320000x8x15, .f32⟩
  | 96 => ⟨S_, .f32⟩
  | 97 => ⟨S10000x8x15, .f32⟩
  | 98 => ⟨S320000x1, .i32⟩
  | 99 => ⟨S10000x8x15, .f32⟩
  | 100 => ⟨S_, .f32⟩
  | 101 => ⟨S10000x8x15, .f32⟩
  | 102 => ⟨S10000x8x15, .f32⟩
  | 103 => ⟨S10000x8x15, .f32⟩
  | 104 => ⟨S1x15x32, .f32⟩
  | 105 => ⟨S15x32, .f32⟩
  | 106 => ⟨S10000x8x32, .f32⟩
  | 107 => ⟨S10000x8x32, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x8x15, .f32⟩
  | 117 => ⟨S320000x1x1, .f32⟩
  | 118 => ⟨S320000x8x15, .f32⟩
  | 119 => ⟨S320000x8x15, .f32⟩
  | 120 => ⟨S_, .f32⟩
  | 121 => ⟨S10000x8x15, .f32⟩
  | 122 => ⟨S320000x1, .i32⟩
  | 123 => ⟨S10000x8x15, .f32⟩
  | 124 => ⟨S_, .f32⟩
  | 125 => ⟨S10000x8x15, .f32⟩
  | 126 => ⟨S10000x8x15, .f32⟩
  | 127 => ⟨S10000x8x15, .f32⟩
  | _ => ⟨S8x10000x15, .f32⟩

abbrev hbmTy0_5 (i : Nat) : BufTy := match i % 128 with
  | 0 => ⟨S1x15x32, .f32⟩
  | 1 => ⟨S15x32, .f32⟩
  | 2 => ⟨S10000x8x32, .f32⟩
  | 3 => ⟨S10000x8x32, .f32⟩
  | 4 => ⟨S1x1x32, .f32⟩
  | 5 => ⟨S10000x8x32, .f32⟩
  | 6 => ⟨S10000x8x32, .f32⟩
  | 7 => ⟨S_, .f32⟩
  | 8 => ⟨S10000x8x32, .f32⟩
  | 9 => ⟨S10000x8x32, .f32⟩
  | 10 => ⟨S1x32x64, .f32⟩
  | 11 => ⟨S32x64, .f32⟩
  | 12 => ⟨S10000x8x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x8x32, .f32⟩
  | 22 => ⟨S320000x1x1, .f32⟩
  | 23 => ⟨S320000x8x32, .f32⟩
  | 24 => ⟨S320000x8x32, .f32⟩
  | 25 => ⟨S_, .f32⟩
  | 26 => ⟨S10000x8x32, .f32⟩
  | 27 => ⟨S320000x1, .i32⟩
  | 28 => ⟨S10000x8x32, .f32⟩
  | 29 => ⟨S1x32x64, .f32⟩
  | 30 => ⟨S32x64, .f32⟩
  | 31 => ⟨S10000x8x64, .f32⟩
  | 32 => ⟨S10000x8x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x8x32, .f32⟩
  | 42 => ⟨S320000x1x1, .f32⟩
  | 43 => ⟨S320000x8x32, .f32⟩
  | 44 => ⟨S320000x8x32, .f32⟩
  | 45 => ⟨S_, .f32⟩
  | 46 => ⟨S10000x8x32, .f32⟩
  | 47 => ⟨S320000x1, .i32⟩
  | 48 => ⟨S10000x8x32, .f32⟩
  | 49 => ⟨S_, .f32⟩
  | 50 => ⟨S10000x8x32, .f32⟩
  | 51 => ⟨S10000x8x32, .f32⟩
  | 52 => ⟨S10000x8x32, .f32⟩
  | 53 => ⟨S1x32x64, .f32⟩
  | 54 => ⟨S32x64, .f32⟩
  | 55 => ⟨S10000x8x64, .f32⟩
  | 56 => ⟨S10000x8x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x8x32, .f32⟩
  | 66 => ⟨S320000x1x1, .f32⟩
  | 67 => ⟨S320000x8x32, .f32⟩
  | 68 => ⟨S320000x8x32, .f32⟩
  | 69 => ⟨S_, .f32⟩
  | 70 => ⟨S10000x8x32, .f32⟩
  | 71 => ⟨S320000x1, .i32⟩
  | 72 => ⟨S10000x8x32, .f32⟩
  | 73 => ⟨S_, .f32⟩
  | 74 => ⟨S10000x8x32, .f32⟩
  | 75 => ⟨S10000x8x32, .f32⟩
  | 76 => ⟨S10000x8x32, .f32⟩
  | 77 => ⟨S1x32x64, .f32⟩
  | 78 => ⟨S32x64, .f32⟩
  | 79 => ⟨S10000x8x64, .f32⟩
  | 80 => ⟨S10000x8x64, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x8x32, .f32⟩
  | 90 => ⟨S320000x1x1, .f32⟩
  | 91 => ⟨S320000x8x32, .f32⟩
  | 92 => ⟨S320000x8x32, .f32⟩
  | 93 => ⟨S_, .f32⟩
  | 94 => ⟨S10000x8x32, .f32⟩
  | 95 => ⟨S320000x1, .i32⟩
  | 96 => ⟨S10000x8x32, .f32⟩
  | 97 => ⟨S_, .f32⟩
  | 98 => ⟨S10000x8x32, .f32⟩
  | 99 => ⟨S10000x8x32, .f32⟩
  | 100 => ⟨S10000x8x32, .f32⟩
  | 101 => ⟨S1x32x64, .f32⟩
  | 102 => ⟨S32x64, .f32⟩
  | 103 => ⟨S10000x8x64, .f32⟩
  | 104 => ⟨S10000x8x64, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x8x32, .f32⟩
  | 114 => ⟨S320000x1x1, .f32⟩
  | 115 => ⟨S320000x8x32, .f32⟩
  | 116 => ⟨S320000x8x32, .f32⟩
  | 117 => ⟨S_, .f32⟩
  | 118 => ⟨S10000x8x32, .f32⟩
  | 119 => ⟨S320000x1, .i32⟩
  | 120 => ⟨S10000x8x32, .f32⟩
  | 121 => ⟨S_, .f32⟩
  | 122 => ⟨S10000x8x32, .f32⟩
  | 123 => ⟨S10000x8x32, .f32⟩
  | 124 => ⟨S10000x8x32, .f32⟩
  | 125 => ⟨S1x32x64, .f32⟩
  | 126 => ⟨S32x64, .f32⟩
  | 127 => ⟨S10000x8x64, .f32⟩
  | _ => ⟨S8x10000x15, .f32⟩

abbrev hbmTy0_6 (i : Nat) : BufTy := match i % 128 with
  | 0 => ⟨S10000x8x64, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8x32, .f32⟩
  | 10 => ⟨S320000x1x1, .f32⟩
  | 11 => ⟨S320000x8x32, .f32⟩
  | 12 => ⟨S320000x8x32, .f32⟩
  | 13 => ⟨S_, .f32⟩
  | 14 => ⟨S10000x8x32, .f32⟩
  | 15 => ⟨S320000x1, .i32⟩
  | 16 => ⟨S10000x8x32, .f32⟩
  | 17 => ⟨S_, .f32⟩
  | 18 => ⟨S10000x8x32, .f32⟩
  | 19 => ⟨S10000x8x32, .f32⟩
  | 20 => ⟨S10000x8x32, .f32⟩
  | 21 => ⟨S1x32x64, .f32⟩
  | 22 => ⟨S32x64, .f32⟩
  | 23 => ⟨S10000x8x64, .f32⟩
  | 24 => ⟨S10000x8x64, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x8x32, .f32⟩
  | 34 => ⟨S320000x1x1, .f32⟩
  | 35 => ⟨S320000x8x32, .f32⟩
  | 36 => ⟨S320000x8x32, .f32⟩
  | 37 => ⟨S_, .f32⟩
  | 38 => ⟨S10000x8x32, .f32⟩
  | 39 => ⟨S320000x1, .i32⟩
  | 40 => ⟨S10000x8x32, .f32⟩
  | 41 => ⟨S_, .f32⟩
  | 42 => ⟨S10000x8x32, .f32⟩
  | 43 => ⟨S10000x8x32, .f32⟩
  | 44 => ⟨S10000x8x32, .f32⟩
  | 45 => ⟨S1x32x64, .f32⟩
  | 46 => ⟨S32x64, .f32⟩
  | 47 => ⟨S10000x8x64, .f32⟩
  | 48 => ⟨S10000x8x64, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8x32, .f32⟩
  | 58 => ⟨S320000x1x1, .f32⟩
  | 59 => ⟨S320000x8x32, .f32⟩
  | 60 => ⟨S320000x8x32, .f32⟩
  | 61 => ⟨S_, .f32⟩
  | 62 => ⟨S10000x8x32, .f32⟩
  | 63 => ⟨S320000x1, .i32⟩
  | 64 => ⟨S10000x8x32, .f32⟩
  | 65 => ⟨S_, .f32⟩
  | 66 => ⟨S10000x8x32, .f32⟩
  | 67 => ⟨S10000x8x32, .f32⟩
  | 68 => ⟨S10000x8x32, .f32⟩
  | 69 => ⟨S1x32x64, .f32⟩
  | 70 => ⟨S32x64, .f32⟩
  | 71 => ⟨S10000x8x64, .f32⟩
  | 72 => ⟨S10000x8x64, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x8x32, .f32⟩
  | 82 => ⟨S320000x1x1, .f32⟩
  | 83 => ⟨S320000x8x32, .f32⟩
  | 84 => ⟨S320000x8x32, .f32⟩
  | 85 => ⟨S_, .f32⟩
  | 86 => ⟨S10000x8x32, .f32⟩
  | 87 => ⟨S320000x1, .i32⟩
  | 88 => ⟨S10000x8x32, .f32⟩
  | 89 => ⟨S_, .f32⟩
  | 90 => ⟨S10000x8x32, .f32⟩
  | 91 => ⟨S10000x8x32, .f32⟩
  | 92 => ⟨S10000x8x32, .f32⟩
  | 93 => ⟨S1x32x64, .f32⟩
  | 94 => ⟨S32x64, .f32⟩
  | 95 => ⟨S10000x8x64, .f32⟩
  | 96 => ⟨S10000x8x64, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x8x32, .f32⟩
  | 106 => ⟨S320000x1x1, .f32⟩
  | 107 => ⟨S320000x8x32, .f32⟩
  | 108 => ⟨S320000x8x32, .f32⟩
  | 109 => ⟨S_, .f32⟩
  | 110 => ⟨S10000x8x32, .f32⟩
  | 111 => ⟨S320000x1, .i32⟩
  | 112 => ⟨S10000x8x32, .f32⟩
  | 113 => ⟨S_, .f32⟩
  | 114 => ⟨S10000x8x32, .f32⟩
  | 115 => ⟨S10000x8x32, .f32⟩
  | 116 => ⟨S10000x8x32, .f32⟩
  | 117 => ⟨S1x32x64, .f32⟩
  | 118 => ⟨S32x64, .f32⟩
  | 119 => ⟨S10000x8x64, .f32⟩
  | 120 => ⟨S10000x8x64, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S8x10000x15, .f32⟩

abbrev hbmTy0_7 (i : Nat) : BufTy := match i % 128 with
  | 0 => ⟨S320000x1, .i32⟩
  | 1 => ⟨S320000x8x32, .f32⟩
  | 2 => ⟨S320000x1x1, .f32⟩
  | 3 => ⟨S320000x8x32, .f32⟩
  | 4 => ⟨S320000x8x32, .f32⟩
  | 5 => ⟨S_, .f32⟩
  | 6 => ⟨S10000x8x32, .f32⟩
  | 7 => ⟨S320000x1, .i32⟩
  | 8 => ⟨S10000x8x32, .f32⟩
  | 9 => ⟨S_, .f32⟩
  | 10 => ⟨S10000x8x32, .f32⟩
  | 11 => ⟨S10000x8x32, .f32⟩
  | 12 => ⟨S10000x8x32, .f32⟩
  | 13 => ⟨S1x32x64, .f32⟩
  | 14 => ⟨S32x64, .f32⟩
  | 15 => ⟨S10000x8x64, .f32⟩
  | 16 => ⟨S10000x8x64, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x8x32, .f32⟩
  | 26 => ⟨S320000x1x1, .f32⟩
  | 27 => ⟨S320000x8x32, .f32⟩
  | 28 => ⟨S320000x8x32, .f32⟩
  | 29 => ⟨S_, .f32⟩
  | 30 => ⟨S10000x8x32, .f32⟩
  | 31 => ⟨S320000x1, .i32⟩
  | 32 => ⟨S10000x8x32, .f32⟩
  | 33 => ⟨S_, .f32⟩
  | 34 => ⟨S10000x8x32, .f32⟩
  | 35 => ⟨S10000x8x32, .f32⟩
  | 36 => ⟨S10000x8x32, .f32⟩
  | 37 => ⟨S1x32x64, .f32⟩
  | 38 => ⟨S32x64, .f32⟩
  | 39 => ⟨S10000x8x64, .f32⟩
  | 40 => ⟨S10000x8x64, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x8x32, .f32⟩
  | 50 => ⟨S320000x1x1, .f32⟩
  | 51 => ⟨S320000x8x32, .f32⟩
  | 52 => ⟨S320000x8x32, .f32⟩
  | 53 => ⟨S_, .f32⟩
  | 54 => ⟨S10000x8x32, .f32⟩
  | 55 => ⟨S320000x1, .i32⟩
  | 56 => ⟨S10000x8x32, .f32⟩
  | 57 => ⟨S_, .f32⟩
  | 58 => ⟨S10000x8x32, .f32⟩
  | 59 => ⟨S10000x8x32, .f32⟩
  | 60 => ⟨S10000x8x32, .f32⟩
  | 61 => ⟨S1x32x64, .f32⟩
  | 62 => ⟨S32x64, .f32⟩
  | 63 => ⟨S10000x8x64, .f32⟩
  | 64 => ⟨S10000x8x64, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x8x32, .f32⟩
  | 74 => ⟨S320000x1x1, .f32⟩
  | 75 => ⟨S320000x8x32, .f32⟩
  | 76 => ⟨S320000x8x32, .f32⟩
  | 77 => ⟨S_, .f32⟩
  | 78 => ⟨S10000x8x32, .f32⟩
  | 79 => ⟨S320000x1, .i32⟩
  | 80 => ⟨S10000x8x32, .f32⟩
  | 81 => ⟨S_, .f32⟩
  | 82 => ⟨S10000x8x32, .f32⟩
  | 83 => ⟨S10000x8x32, .f32⟩
  | 84 => ⟨S10000x8x32, .f32⟩
  | 85 => ⟨S1x32x64, .f32⟩
  | 86 => ⟨S32x64, .f32⟩
  | 87 => ⟨S10000x8x64, .f32⟩
  | 88 => ⟨S10000x8x64, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x8x32, .f32⟩
  | 98 => ⟨S320000x1x1, .f32⟩
  | 99 => ⟨S320000x8x32, .f32⟩
  | 100 => ⟨S320000x8x32, .f32⟩
  | 101 => ⟨S_, .f32⟩
  | 102 => ⟨S10000x8x32, .f32⟩
  | 103 => ⟨S320000x1, .i32⟩
  | 104 => ⟨S10000x8x32, .f32⟩
  | 105 => ⟨S_, .f32⟩
  | 106 => ⟨S10000x8x32, .f32⟩
  | 107 => ⟨S10000x8x32, .f32⟩
  | 108 => ⟨S10000x8x32, .f32⟩
  | 109 => ⟨S1x32x64, .f32⟩
  | 110 => ⟨S32x64, .f32⟩
  | 111 => ⟨S10000x8x64, .f32⟩
  | 112 => ⟨S10000x8x64, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x8x32, .f32⟩
  | 122 => ⟨S320000x1x1, .f32⟩
  | 123 => ⟨S320000x8x32, .f32⟩
  | 124 => ⟨S320000x8x32, .f32⟩
  | 125 => ⟨S_, .f32⟩
  | 126 => ⟨S10000x8x32, .f32⟩
  | 127 => ⟨S320000x1, .i32⟩
  | _ => ⟨S8x10000x15, .f32⟩

abbrev hbmTy0_8 (i : Nat) : BufTy := match i % 128 with
  | 0 => ⟨S10000x8x32, .f32⟩
  | 1 => ⟨S_, .f32⟩
  | 2 => ⟨S10000x8x32, .f32⟩
  | 3 => ⟨S10000x8x32, .f32⟩
  | 4 => ⟨S10000x8x32, .f32⟩
  | 5 => ⟨S1x32x64, .f32⟩
  | 6 => ⟨S32x64, .f32⟩
  | 7 => ⟨S10000x8x64, .f32⟩
  | 8 => ⟨S10000x8x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x8x32, .f32⟩
  | 18 => ⟨S320000x1x1, .f32⟩
  | 19 => ⟨S320000x8x32, .f32⟩
  | 20 => ⟨S320000x8x32, .f32⟩
  | 21 => ⟨S_, .f32⟩
  | 22 => ⟨S10000x8x32, .f32⟩
  | 23 => ⟨S320000x1, .i32⟩
  | 24 => ⟨S10000x8x32, .f32⟩
  | 25 => ⟨S_, .f32⟩
  | 26 => ⟨S10000x8x32, .f32⟩
  | 27 => ⟨S10000x8x32, .f32⟩
  | 28 => ⟨S10000x8x32, .f32⟩
  | 29 => ⟨S1x32x64, .f32⟩
  | 30 => ⟨S32x64, .f32⟩
  | 31 => ⟨S10000x8x64, .f32⟩
  | 32 => ⟨S10000x8x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x8x32, .f32⟩
  | 42 => ⟨S320000x1x1, .f32⟩
  | 43 => ⟨S320000x8x32, .f32⟩
  | 44 => ⟨S320000x8x32, .f32⟩
  | 45 => ⟨S_, .f32⟩
  | 46 => ⟨S10000x8x32, .f32⟩
  | 47 => ⟨S320000x1, .i32⟩
  | 48 => ⟨S10000x8x32, .f32⟩
  | 49 => ⟨S_, .f32⟩
  | 50 => ⟨S10000x8x32, .f32⟩
  | 51 => ⟨S10000x8x32, .f32⟩
  | 52 => ⟨S10000x8x32, .f32⟩
  | 53 => ⟨S1x32x64, .f32⟩
  | 54 => ⟨S32x64, .f32⟩
  | 55 => ⟨S10000x8x64, .f32⟩
  | 56 => ⟨S10000x8x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x8x32, .f32⟩
  | 66 => ⟨S320000x1x1, .f32⟩
  | 67 => ⟨S320000x8x32, .f32⟩
  | 68 => ⟨S320000x8x32, .f32⟩
  | 69 => ⟨S_, .f32⟩
  | 70 => ⟨S10000x8x32, .f32⟩
  | 71 => ⟨S320000x1, .i32⟩
  | 72 => ⟨S10000x8x32, .f32⟩
  | 73 => ⟨S_, .f32⟩
  | 74 => ⟨S10000x8x32, .f32⟩
  | 75 => ⟨S10000x8x32, .f32⟩
  | 76 => ⟨S10000x8x32, .f32⟩
  | 77 => ⟨S1x32x64, .f32⟩
  | 78 => ⟨S32x64, .f32⟩
  | 79 => ⟨S10000x8x64, .f32⟩
  | 80 => ⟨S10000x8x64, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x8x32, .f32⟩
  | 90 => ⟨S320000x1x1, .f32⟩
  | 91 => ⟨S320000x8x32, .f32⟩
  | 92 => ⟨S320000x8x32, .f32⟩
  | 93 => ⟨S_, .f32⟩
  | 94 => ⟨S10000x8x32, .f32⟩
  | 95 => ⟨S320000x1, .i32⟩
  | 96 => ⟨S10000x8x32, .f32⟩
  | 97 => ⟨S_, .f32⟩
  | 98 => ⟨S10000x8x32, .f32⟩
  | 99 => ⟨S10000x8x32, .f32⟩
  | 100 => ⟨S10000x8x32, .f32⟩
  | 101 => ⟨S1x32x64, .f32⟩
  | 102 => ⟨S32x64, .f32⟩
  | 103 => ⟨S10000x8x64, .f32⟩
  | 104 => ⟨S10000x8x64, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x8x32, .f32⟩
  | 114 => ⟨S320000x1x1, .f32⟩
  | 115 => ⟨S320000x8x32, .f32⟩
  | 116 => ⟨S320000x8x32, .f32⟩
  | 117 => ⟨S_, .f32⟩
  | 118 => ⟨S10000x8x32, .f32⟩
  | 119 => ⟨S320000x1, .i32⟩
  | 120 => ⟨S10000x8x32, .f32⟩
  | 121 => ⟨S_, .f32⟩
  | 122 => ⟨S10000x8x32, .f32⟩
  | 123 => ⟨S10000x8x32, .f32⟩
  | 124 => ⟨S10000x8x32, .f32⟩
  | 125 => ⟨S1x32x64, .f32⟩
  | 126 => ⟨S32x64, .f32⟩
  | 127 => ⟨S10000x8x64, .f32⟩
  | _ => ⟨S8x10000x15, .f32⟩

abbrev hbmTy0_9 (i : Nat) : BufTy := match i % 128 with
  | 0 => ⟨S10000x8x64, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8x32, .f32⟩
  | 10 => ⟨S320000x1x1, .f32⟩
  | 11 => ⟨S320000x8x32, .f32⟩
  | 12 => ⟨S320000x8x32, .f32⟩
  | 13 => ⟨S_, .f32⟩
  | 14 => ⟨S10000x8x32, .f32⟩
  | 15 => ⟨S320000x1, .i32⟩
  | 16 => ⟨S10000x8x32, .f32⟩
  | 17 => ⟨S_, .f32⟩
  | 18 => ⟨S10000x8x32, .f32⟩
  | 19 => ⟨S10000x8x32, .f32⟩
  | 20 => ⟨S10000x8x32, .f32⟩
  | 21 => ⟨S1x32x64, .f32⟩
  | 22 => ⟨S32x64, .f32⟩
  | 23 => ⟨S10000x8x64, .f32⟩
  | 24 => ⟨S10000x8x64, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x8x32, .f32⟩
  | 34 => ⟨S320000x1x1, .f32⟩
  | 35 => ⟨S320000x8x32, .f32⟩
  | 36 => ⟨S320000x8x32, .f32⟩
  | 37 => ⟨S_, .f32⟩
  | 38 => ⟨S10000x8x32, .f32⟩
  | 39 => ⟨S320000x1, .i32⟩
  | 40 => ⟨S10000x8x32, .f32⟩
  | 41 => ⟨S_, .f32⟩
  | 42 => ⟨S10000x8x32, .f32⟩
  | 43 => ⟨S10000x8x32, .f32⟩
  | 44 => ⟨S10000x8x32, .f32⟩
  | 45 => ⟨S1x32x64, .f32⟩
  | 46 => ⟨S32x64, .f32⟩
  | 47 => ⟨S10000x8x64, .f32⟩
  | 48 => ⟨S10000x8x64, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8x32, .f32⟩
  | 58 => ⟨S320000x1x1, .f32⟩
  | 59 => ⟨S320000x8x32, .f32⟩
  | 60 => ⟨S320000x8x32, .f32⟩
  | 61 => ⟨S_, .f32⟩
  | 62 => ⟨S10000x8x32, .f32⟩
  | 63 => ⟨S320000x1, .i32⟩
  | 64 => ⟨S10000x8x32, .f32⟩
  | 65 => ⟨S_, .f32⟩
  | 66 => ⟨S10000x8x32, .f32⟩
  | 67 => ⟨S10000x8x32, .f32⟩
  | 68 => ⟨S10000x8x32, .f32⟩
  | 69 => ⟨S1x32x64, .f32⟩
  | 70 => ⟨S32x64, .f32⟩
  | 71 => ⟨S10000x8x64, .f32⟩
  | 72 => ⟨S10000x8x64, .f32⟩
  | 73 => ⟨S1x1x64, .f32⟩
  | 74 => ⟨S10000x8x64, .f32⟩
  | 75 => ⟨S10000x8x64, .f32⟩
  | 76 => ⟨S_, .f32⟩
  | 77 => ⟨S10000x8x64, .f32⟩
  | 78 => ⟨S10000x8x64, .f32⟩
  | 79 => ⟨S8x10000x64, .f32⟩
  | 80 => ⟨S8x640000, .f32⟩
  | 81 => ⟨S8x512, .f32⟩
  | 82 => ⟨S1x512, .f32⟩
  | 83 => ⟨S8x512, .f32⟩
  | 84 => ⟨S8x512, .f32⟩
  | 85 => ⟨S8x6, .f32⟩
  | 86 => ⟨S1x6, .f32⟩
  | 87 => ⟨S8x6, .f32⟩
  | 88 => ⟨S8x6, .f32⟩
  | 89 => ⟨S_, .f32⟩
  | 90 => ⟨S8, .f32⟩
  | 91 => ⟨S_, .f32⟩
  | 92 => ⟨S8, .f32⟩
  | 93 => ⟨S8, .f32⟩
  | 94 => ⟨S8x1, .f32⟩
  | 95 => ⟨S8x6, .f32⟩
  | 96 => ⟨S8x6, .f32⟩
  | 97 => ⟨S8x6, .f32⟩
  | 98 => ⟨S_, .f32⟩
  | 99 => ⟨S8, .f32⟩
  | 100 => ⟨S8x1, .f32⟩
  | 101 => ⟨S8x1, .f32⟩
  | 102 => ⟨S8x6, .f32⟩
  | 103 => ⟨S8x6, .f32⟩
  | _ => ⟨S8x10000x15, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8x10000x15, .f32⟩

abbrev bufTy : (tb : Table) → Fin (tcTables nBuf tb) → BufTy
  | .hbm, ⟨i, _⟩ => hbmTy i
  | _, _ => ⟨S8x10000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_23 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_24 : Ref sig .tc := ⟨.hbm, 164, rfl⟩
abbrev main_v126 : Ref sig .tc := ⟨.hbm, 165, rfl⟩
abbrev main_v127 : Ref sig .tc := ⟨.hbm, 166, rfl⟩
abbrev main_c_25 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_26 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_27 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_28 : Ref sig .tc := ⟨.hbm, 188, rfl⟩
abbrev main_v146 : Ref sig .tc := ⟨.hbm, 189, rfl⟩
abbrev main_v147 : Ref sig .tc := ⟨.hbm, 190, rfl⟩
abbrev main_c_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_30 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_31 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_32 : Ref sig .tc := ⟨.hbm, 212, rfl⟩
abbrev main_v166 : Ref sig .tc := ⟨.hbm, 213, rfl⟩
abbrev main_v167 : Ref sig .tc := ⟨.hbm, 214, rfl⟩
abbrev main_c_33 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_34 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_35 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_c_36 : Ref sig .tc := ⟨.hbm, 236, rfl⟩
abbrev main_v186 : Ref sig .tc := ⟨.hbm, 237, rfl⟩
abbrev main_v187 : Ref sig .tc := ⟨.hbm, 238, rfl⟩
abbrev main_c_37 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_38 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_39 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_c_40 : Ref sig .tc := ⟨.hbm, 260, rfl⟩
abbrev main_v206 : Ref sig .tc := ⟨.hbm, 261, rfl⟩
abbrev main_v207 : Ref sig .tc := ⟨.hbm, 262, rfl⟩
abbrev main_c_41 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_cst_42 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_43 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_c_44 : Ref sig .tc := ⟨.hbm, 284, rfl⟩
abbrev main_v226 : Ref sig .tc := ⟨.hbm, 285, rfl⟩
abbrev main_v227 : Ref sig .tc := ⟨.hbm, 286, rfl⟩
abbrev main_c_45 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_46 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_47 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_c_48 : Ref sig .tc := ⟨.hbm, 308, rfl⟩
abbrev main_v246 : Ref sig .tc := ⟨.hbm, 309, rfl⟩
abbrev main_v247 : Ref sig .tc := ⟨.hbm, 310, rfl⟩
abbrev main_c_49 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_cst_50 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_cst_51 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_c_52 : Ref sig .tc := ⟨.hbm, 332, rfl⟩
abbrev main_v266 : Ref sig .tc := ⟨.hbm, 333, rfl⟩
abbrev main_v267 : Ref sig .tc := ⟨.hbm, 334, rfl⟩
abbrev main_c_53 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_cst_54 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_cst_55 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_c_56 : Ref sig .tc := ⟨.hbm, 356, rfl⟩
abbrev main_v286 : Ref sig .tc := ⟨.hbm, 357, rfl⟩
abbrev main_v287 : Ref sig .tc := ⟨.hbm, 358, rfl⟩
abbrev main_c_57 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_cst_58 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_cst_59 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_c_60 : Ref sig .tc := ⟨.hbm, 380, rfl⟩
abbrev main_v306 : Ref sig .tc := ⟨.hbm, 381, rfl⟩
abbrev main_v307 : Ref sig .tc := ⟨.hbm, 382, rfl⟩
abbrev main_c_61 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_cst_62 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_cst_63 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_c_64 : Ref sig .tc := ⟨.hbm, 404, rfl⟩
abbrev main_v326 : Ref sig .tc := ⟨.hbm, 405, rfl⟩
abbrev main_v327 : Ref sig .tc := ⟨.hbm, 406, rfl⟩
abbrev main_c_65 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_cst_66 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_cst_67 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_c_68 : Ref sig .tc := ⟨.hbm, 428, rfl⟩
abbrev main_v346 : Ref sig .tc := ⟨.hbm, 429, rfl⟩
abbrev main_v347 : Ref sig .tc := ⟨.hbm, 430, rfl⟩
abbrev main_c_69 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_cst_70 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_cst_71 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_c_72 : Ref sig .tc := ⟨.hbm, 452, rfl⟩
abbrev main_v366 : Ref sig .tc := ⟨.hbm, 453, rfl⟩
abbrev main_v367 : Ref sig .tc := ⟨.hbm, 454, rfl⟩
abbrev main_c_73 : Ref sig .tc := ⟨.hbm, 455, rfl⟩
abbrev main_v368 : Ref sig .tc := ⟨.hbm, 456, rfl⟩
abbrev main_v369 : Ref sig .tc := ⟨.hbm, 457, rfl⟩
abbrev main_v370 : Ref sig .tc := ⟨.hbm, 458, rfl⟩
abbrev main_v371 : Ref sig .tc := ⟨.hbm, 459, rfl⟩
abbrev main_v372 : Ref sig .tc := ⟨.hbm, 460, rfl⟩
abbrev main_v373 : Ref sig .tc := ⟨.hbm, 461, rfl⟩
abbrev main_v374 : Ref sig .tc := ⟨.hbm, 462, rfl⟩
abbrev main_v375 : Ref sig .tc := ⟨.hbm, 463, rfl⟩
abbrev main_cst_74 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_cst_75 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_c_76 : Ref sig .tc := ⟨.hbm, 476, rfl⟩
abbrev main_v386 : Ref sig .tc := ⟨.hbm, 477, rfl⟩
abbrev main_v387 : Ref sig .tc := ⟨.hbm, 478, rfl⟩
abbrev main_c_77 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_cst_78 : Ref sig .tc := ⟨.hbm, 488, rfl⟩
abbrev main_v396 : Ref sig .tc := ⟨.hbm, 489, rfl⟩
abbrev main_v397 : Ref sig .tc := ⟨.hbm, 490, rfl⟩
abbrev main_v398 : Ref sig .tc := ⟨.hbm, 491, rfl⟩
abbrev main_cst_79 : Ref sig .tc := ⟨.hbm, 492, rfl⟩
abbrev main_v399 : Ref sig .tc := ⟨.hbm, 493, rfl⟩
abbrev main_v400 : Ref sig .tc := ⟨.hbm, 494, rfl⟩
abbrev main_v401 : Ref sig .tc := ⟨.hbm, 495, rfl⟩
abbrev main_v402 : Ref sig .tc := ⟨.hbm, 496, rfl⟩
abbrev main_v403 : Ref sig .tc := ⟨.hbm, 497, rfl⟩
abbrev main_v404 : Ref sig .tc := ⟨.hbm, 498, rfl⟩
abbrev main_v405 : Ref sig .tc := ⟨.hbm, 499, rfl⟩
abbrev main_c_80 : Ref sig .tc := ⟨.hbm, 500, rfl⟩
abbrev main_v406 : Ref sig .tc := ⟨.hbm, 501, rfl⟩
abbrev main_v407 : Ref sig .tc := ⟨.hbm, 502, rfl⟩
abbrev main_c_81 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_v415 : Ref sig .tc := ⟨.hbm, 511, rfl⟩
abbrev main_cst_82 : Ref sig .tc := ⟨.hbm, 512, rfl⟩
abbrev main_v416 : Ref sig .tc := ⟨.hbm, 513, rfl⟩
abbrev main_v417 : Ref sig .tc := ⟨.hbm, 514, rfl⟩
abbrev main_v418 : Ref sig .tc := ⟨.hbm, 515, rfl⟩
abbrev main_cst_83 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_c_84 : Ref sig .tc := ⟨.hbm, 524, rfl⟩
abbrev main_v426 : Ref sig .tc := ⟨.hbm, 525, rfl⟩
abbrev main_v427 : Ref sig .tc := ⟨.hbm, 526, rfl⟩
abbrev main_c_85 : Ref sig .tc := ⟨.hbm, 527, rfl⟩
abbrev main_v428 : Ref sig .tc := ⟨.hbm, 528, rfl⟩
abbrev main_v429 : Ref sig .tc := ⟨.hbm, 529, rfl⟩
abbrev main_v430 : Ref sig .tc := ⟨.hbm, 530, rfl⟩
abbrev main_v431 : Ref sig .tc := ⟨.hbm, 531, rfl⟩
abbrev main_v432 : Ref sig .tc := ⟨.hbm, 532, rfl⟩
abbrev main_v433 : Ref sig .tc := ⟨.hbm, 533, rfl⟩
abbrev main_v434 : Ref sig .tc := ⟨.hbm, 534, rfl⟩
abbrev main_v435 : Ref sig .tc := ⟨.hbm, 535, rfl⟩
abbrev main_cst_86 : Ref sig .tc := ⟨.hbm, 536, rfl⟩
abbrev main_v436 : Ref sig .tc := ⟨.hbm, 537, rfl⟩
abbrev main_v437 : Ref sig .tc := ⟨.hbm, 538, rfl⟩
abbrev main_v438 : Ref sig .tc := ⟨.hbm, 539, rfl⟩
abbrev main_cst_87 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_v443 : Ref sig .tc := ⟨.hbm, 545, rfl⟩
abbrev main_v444 : Ref sig .tc := ⟨.hbm, 546, rfl⟩
abbrev main_v445 : Ref sig .tc := ⟨.hbm, 547, rfl⟩
abbrev main_c_88 : Ref sig .tc := ⟨.hbm, 548, rfl⟩
abbrev main_v446 : Ref sig .tc := ⟨.hbm, 549, rfl⟩
abbrev main_v447 : Ref sig .tc := ⟨.hbm, 550, rfl⟩
abbrev main_c_89 : Ref sig .tc := ⟨.hbm, 551, rfl⟩
abbrev main_v448 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_cst_90 : Ref sig .tc := ⟨.hbm, 560, rfl⟩
abbrev main_v456 : Ref sig .tc := ⟨.hbm, 561, rfl⟩
abbrev main_v457 : Ref sig .tc := ⟨.hbm, 562, rfl⟩
abbrev main_v458 : Ref sig .tc := ⟨.hbm, 563, rfl⟩
abbrev main_cst_91 : Ref sig .tc := ⟨.hbm, 564, rfl⟩
abbrev main_v459 : Ref sig .tc := ⟨.hbm, 565, rfl⟩
abbrev main_v460 : Ref sig .tc := ⟨.hbm, 566, rfl⟩
abbrev main_v461 : Ref sig .tc := ⟨.hbm, 567, rfl⟩
abbrev main_v462 : Ref sig .tc := ⟨.hbm, 568, rfl⟩
abbrev main_v463 : Ref sig .tc := ⟨.hbm, 569, rfl⟩
abbrev main_v464 : Ref sig .tc := ⟨.hbm, 570, rfl⟩
abbrev main_v465 : Ref sig .tc := ⟨.hbm, 571, rfl⟩
abbrev main_c_92 : Ref sig .tc := ⟨.hbm, 572, rfl⟩
abbrev main_v466 : Ref sig .tc := ⟨.hbm, 573, rfl⟩
abbrev main_v467 : Ref sig .tc := ⟨.hbm, 574, rfl⟩
abbrev main_c_93 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_v471 : Ref sig .tc := ⟨.hbm, 579, rfl⟩
abbrev main_v472 : Ref sig .tc := ⟨.hbm, 580, rfl⟩
abbrev main_v473 : Ref sig .tc := ⟨.hbm, 581, rfl⟩
abbrev main_v474 : Ref sig .tc := ⟨.hbm, 582, rfl⟩
abbrev main_v475 : Ref sig .tc := ⟨.hbm, 583, rfl⟩
abbrev main_cst_94 : Ref sig .tc := ⟨.hbm, 584, rfl⟩
abbrev main_v476 : Ref sig .tc := ⟨.hbm, 585, rfl⟩
abbrev main_v477 : Ref sig .tc := ⟨.hbm, 586, rfl⟩
abbrev main_v478 : Ref sig .tc := ⟨.hbm, 587, rfl⟩
abbrev main_cst_95 : Ref sig .tc := ⟨.hbm, 588, rfl⟩
abbrev main_v479 : Ref sig .tc := ⟨.hbm, 589, rfl⟩
abbrev main_v480 : Ref sig .tc := ⟨.hbm, 590, rfl⟩
abbrev main_v481 : Ref sig .tc := ⟨.hbm, 591, rfl⟩
abbrev main_v482 : Ref sig .tc := ⟨.hbm, 592, rfl⟩
abbrev main_v483 : Ref sig .tc := ⟨.hbm, 593, rfl⟩
abbrev main_v484 : Ref sig .tc := ⟨.hbm, 594, rfl⟩
abbrev main_v485 : Ref sig .tc := ⟨.hbm, 595, rfl⟩
abbrev main_c_96 : Ref sig .tc := ⟨.hbm, 596, rfl⟩
abbrev main_v486 : Ref sig .tc := ⟨.hbm, 597, rfl⟩
abbrev main_v487 : Ref sig .tc := ⟨.hbm, 598, rfl⟩
abbrev main_c_97 : Ref sig .tc := ⟨.hbm, 599, rfl⟩
abbrev main_v488 : Ref sig .tc := ⟨.hbm, 600, rfl⟩
abbrev main_v489 : Ref sig .tc := ⟨.hbm, 601, rfl⟩
abbrev main_v490 : Ref sig .tc := ⟨.hbm, 602, rfl⟩
abbrev main_v491 : Ref sig .tc := ⟨.hbm, 603, rfl⟩
abbrev main_v492 : Ref sig .tc := ⟨.hbm, 604, rfl⟩
abbrev main_v493 : Ref sig .tc := ⟨.hbm, 605, rfl⟩
abbrev main_v494 : Ref sig .tc := ⟨.hbm, 606, rfl⟩
abbrev main_v495 : Ref sig .tc := ⟨.hbm, 607, rfl⟩
abbrev main_cst_98 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_cst_99 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_v503 : Ref sig .tc := ⟨.hbm, 617, rfl⟩
abbrev main_v504 : Ref sig .tc := ⟨.hbm, 618, rfl⟩
abbrev main_v505 : Ref sig .tc := ⟨.hbm, 619, rfl⟩
abbrev main_c_100 : Ref sig .tc := ⟨.hbm, 620, rfl⟩
abbrev main_v506 : Ref sig .tc := ⟨.hbm, 621, rfl⟩
abbrev main_v507 : Ref sig .tc := ⟨.hbm, 622, rfl⟩
abbrev main_c_101 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_cst_102 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_cst_103 : Ref sig .tc := ⟨.hbm, 636, rfl⟩
abbrev main_v519 : Ref sig .tc := ⟨.hbm, 637, rfl⟩
abbrev main_v520 : Ref sig .tc := ⟨.hbm, 638, rfl⟩
abbrev main_v521 : Ref sig .tc := ⟨.hbm, 639, rfl⟩
abbrev main_v522 : Ref sig .tc := ⟨.hbm, 640, rfl⟩
abbrev main_v523 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_call1_cst : Ref sig .tc := ⟨.hbm, 647, rfl⟩
abbrev main_call1_v0 : Ref sig .tc := ⟨.hbm, 648, rfl⟩
abbrev main_v529 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_c_104 : Ref sig .tc := ⟨.hbm, 653, rfl⟩
abbrev main_v533 : Ref sig .tc := ⟨.hbm, 654, rfl⟩
abbrev main_v534 : Ref sig .tc := ⟨.hbm, 655, rfl⟩
abbrev main_c_105 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_cst_106 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_v546 : Ref sig .tc := ⟨.hbm, 669, rfl⟩
abbrev main_v547 : Ref sig .tc := ⟨.hbm, 670, rfl⟩
abbrev main_v548 : Ref sig .tc := ⟨.hbm, 671, rfl⟩
abbrev main_v549 : Ref sig .tc := ⟨.hbm, 672, rfl⟩
abbrev main_c_107 : Ref sig .tc := ⟨.hbm, 673, rfl⟩
abbrev main_v550 : Ref sig .tc := ⟨.hbm, 674, rfl⟩
abbrev main_v551 : Ref sig .tc := ⟨.hbm, 675, rfl⟩
abbrev main_c_108 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_v556 : Ref sig .tc := ⟨.hbm, 681, rfl⟩
abbrev main_v557 : Ref sig .tc := ⟨.hbm, 682, rfl⟩
abbrev main_v558 : Ref sig .tc := ⟨.hbm, 683, rfl⟩
abbrev main_v559 : Ref sig .tc := ⟨.hbm, 684, rfl⟩
abbrev main_cst_109 : Ref sig .tc := ⟨.hbm, 685, rfl⟩
abbrev main_v560 : Ref sig .tc := ⟨.hbm, 686, rfl⟩
abbrev main_v561 : Ref sig .tc := ⟨.hbm, 687, rfl⟩
abbrev main_v562 : Ref sig .tc := ⟨.hbm, 688, rfl⟩
abbrev main_cst_110 : Ref sig .tc := ⟨.hbm, 689, rfl⟩
abbrev main_v563 : Ref sig .tc := ⟨.hbm, 690, rfl⟩
abbrev main_v564 : Ref sig .tc := ⟨.hbm, 691, rfl⟩
abbrev main_v565 : Ref sig .tc := ⟨.hbm, 692, rfl⟩
abbrev main_v566 : Ref sig .tc := ⟨.hbm, 693, rfl⟩
abbrev main_v567 : Ref sig .tc := ⟨.hbm, 694, rfl⟩
abbrev main_v568 : Ref sig .tc := ⟨.hbm, 695, rfl⟩
abbrev main_v569 : Ref sig .tc := ⟨.hbm, 696, rfl⟩
abbrev main_c_111 : Ref sig .tc := ⟨.hbm, 697, rfl⟩
abbrev main_v570 : Ref sig .tc := ⟨.hbm, 698, rfl⟩
abbrev main_v571 : Ref sig .tc := ⟨.hbm, 699, rfl⟩
abbrev main_c_112 : Ref sig .tc := ⟨.hbm, 700, rfl⟩
abbrev main_v572 : Ref sig .tc := ⟨.hbm, 701, rfl⟩
abbrev main_v573 : Ref sig .tc := ⟨.hbm, 702, rfl⟩
abbrev main_v574 : Ref sig .tc := ⟨.hbm, 703, rfl⟩
abbrev main_v575 : Ref sig .tc := ⟨.hbm, 704, rfl⟩
abbrev main_v576 : Ref sig .tc := ⟨.hbm, 705, rfl⟩
abbrev main_v577 : Ref sig .tc := ⟨.hbm, 706, rfl⟩
abbrev main_v578 : Ref sig .tc := ⟨.hbm, 707, rfl⟩
abbrev main_v579 : Ref sig .tc := ⟨.hbm, 708, rfl⟩
abbrev main_cst_113 : Ref sig .tc := ⟨.hbm, 709, rfl⟩
abbrev main_v580 : Ref sig .tc := ⟨.hbm, 710, rfl⟩
abbrev main_v581 : Ref sig .tc := ⟨.hbm, 711, rfl⟩
abbrev main_v582 : Ref sig .tc := ⟨.hbm, 712, rfl⟩
abbrev main_cst_114 : Ref sig .tc := ⟨.hbm, 713, rfl⟩
abbrev main_v583 : Ref sig .tc := ⟨.hbm, 714, rfl⟩
abbrev main_v584 : Ref sig .tc := ⟨.hbm, 715, rfl⟩
abbrev main_v585 : Ref sig .tc := ⟨.hbm, 716, rfl⟩
abbrev main_v586 : Ref sig .tc := ⟨.hbm, 717, rfl⟩
abbrev main_v587 : Ref sig .tc := ⟨.hbm, 718, rfl⟩
abbrev main_v588 : Ref sig .tc := ⟨.hbm, 719, rfl⟩
abbrev main_v589 : Ref sig .tc := ⟨.hbm, 720, rfl⟩
abbrev main_c_115 : Ref sig .tc := ⟨.hbm, 721, rfl⟩
abbrev main_v590 : Ref sig .tc := ⟨.hbm, 722, rfl⟩
abbrev main_v591 : Ref sig .tc := ⟨.hbm, 723, rfl⟩
abbrev main_c_116 : Ref sig .tc := ⟨.hbm, 724, rfl⟩
abbrev main_v592 : Ref sig .tc := ⟨.hbm, 725, rfl⟩
abbrev main_v593 : Ref sig .tc := ⟨.hbm, 726, rfl⟩
abbrev main_v594 : Ref sig .tc := ⟨.hbm, 727, rfl⟩
abbrev main_v595 : Ref sig .tc := ⟨.hbm, 728, rfl⟩
abbrev main_v596 : Ref sig .tc := ⟨.hbm, 729, rfl⟩
abbrev main_v597 : Ref sig .tc := ⟨.hbm, 730, rfl⟩
abbrev main_v598 : Ref sig .tc := ⟨.hbm, 731, rfl⟩
abbrev main_v599 : Ref sig .tc := ⟨.hbm, 732, rfl⟩
abbrev main_cst_117 : Ref sig .tc := ⟨.hbm, 733, rfl⟩
abbrev main_v600 : Ref sig .tc := ⟨.hbm, 734, rfl⟩
abbrev main_v601 : Ref sig .tc := ⟨.hbm, 735, rfl⟩
abbrev main_v602 : Ref sig .tc := ⟨.hbm, 736, rfl⟩
abbrev main_cst_118 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_v607 : Ref sig .tc := ⟨.hbm, 742, rfl⟩
abbrev main_v608 : Ref sig .tc := ⟨.hbm, 743, rfl⟩
abbrev main_v609 : Ref sig .tc := ⟨.hbm, 744, rfl⟩
abbrev main_c_119 : Ref sig .tc := ⟨.hbm, 745, rfl⟩
abbrev main_v610 : Ref sig .tc := ⟨.hbm, 746, rfl⟩
abbrev main_v611 : Ref sig .tc := ⟨.hbm, 747, rfl⟩
abbrev main_c_120 : Ref sig .tc := ⟨.hbm, 748, rfl⟩
abbrev main_v612 : Ref sig .tc := ⟨.hbm, 749, rfl⟩
abbrev main_v613 : Ref sig .tc := ⟨.hbm, 750, rfl⟩
abbrev main_v614 : Ref sig .tc := ⟨.hbm, 751, rfl⟩
abbrev main_v615 : Ref sig .tc := ⟨.hbm, 752, rfl⟩
abbrev main_v616 : Ref sig .tc := ⟨.hbm, 753, rfl⟩
abbrev main_v617 : Ref sig .tc := ⟨.hbm, 754, rfl⟩
abbrev main_v618 : Ref sig .tc := ⟨.hbm, 755, rfl⟩
abbrev main_v619 : Ref sig .tc := ⟨.hbm, 756, rfl⟩
abbrev main_cst_121 : Ref sig .tc := ⟨.hbm, 757, rfl⟩
abbrev main_v620 : Ref sig .tc := ⟨.hbm, 758, rfl⟩
abbrev main_v621 : Ref sig .tc := ⟨.hbm, 759, rfl⟩
abbrev main_v622 : Ref sig .tc := ⟨.hbm, 760, rfl⟩
abbrev main_cst_122 : Ref sig .tc := ⟨.hbm, 761, rfl⟩
abbrev main_v623 : Ref sig .tc := ⟨.hbm, 762, rfl⟩
abbrev main_v624 : Ref sig .tc := ⟨.hbm, 763, rfl⟩
abbrev main_v625 : Ref sig .tc := ⟨.hbm, 764, rfl⟩
abbrev main_v626 : Ref sig .tc := ⟨.hbm, 765, rfl⟩
abbrev main_v627 : Ref sig .tc := ⟨.hbm, 766, rfl⟩
abbrev main_v628 : Ref sig .tc := ⟨.hbm, 767, rfl⟩
abbrev main_v629 : Ref sig .tc := ⟨.hbm, 768, rfl⟩
abbrev main_c_123 : Ref sig .tc := ⟨.hbm, 769, rfl⟩
abbrev main_v630 : Ref sig .tc := ⟨.hbm, 770, rfl⟩
abbrev main_v631 : Ref sig .tc := ⟨.hbm, 771, rfl⟩
abbrev main_c_124 : Ref sig .tc := ⟨.hbm, 772, rfl⟩
abbrev main_v632 : Ref sig .tc := ⟨.hbm, 773, rfl⟩
abbrev main_v633 : Ref sig .tc := ⟨.hbm, 774, rfl⟩
abbrev main_v634 : Ref sig .tc := ⟨.hbm, 775, rfl⟩
abbrev main_v635 : Ref sig .tc := ⟨.hbm, 776, rfl⟩
abbrev main_v636 : Ref sig .tc := ⟨.hbm, 777, rfl⟩
abbrev main_v637 : Ref sig .tc := ⟨.hbm, 778, rfl⟩
abbrev main_v638 : Ref sig .tc := ⟨.hbm, 779, rfl⟩
abbrev main_v639 : Ref sig .tc := ⟨.hbm, 780, rfl⟩
abbrev main_cst_125 : Ref sig .tc := ⟨.hbm, 781, rfl⟩
abbrev main_v640 : Ref sig .tc := ⟨.hbm, 782, rfl⟩
abbrev main_v641 : Ref sig .tc := ⟨.hbm, 783, rfl⟩
abbrev main_v642 : Ref sig .tc := ⟨.hbm, 784, rfl⟩
abbrev main_cst_126 : Ref sig .tc := ⟨.hbm, 785, rfl⟩
abbrev main_v643 : Ref sig .tc := ⟨.hbm, 786, rfl⟩
abbrev main_v644 : Ref sig .tc := ⟨.hbm, 787, rfl⟩
abbrev main_v645 : Ref sig .tc := ⟨.hbm, 788, rfl⟩
abbrev main_v646 : Ref sig .tc := ⟨.hbm, 789, rfl⟩
abbrev main_v647 : Ref sig .tc := ⟨.hbm, 790, rfl⟩
abbrev main_v648 : Ref sig .tc := ⟨.hbm, 791, rfl⟩
abbrev main_v649 : Ref sig .tc := ⟨.hbm, 792, rfl⟩
abbrev main_c_127 : Ref sig .tc := ⟨.hbm, 793, rfl⟩
abbrev main_v650 : Ref sig .tc := ⟨.hbm, 794, rfl⟩
abbrev main_v651 : Ref sig .tc := ⟨.hbm, 795, rfl⟩
abbrev main_c_128 : Ref sig .tc := ⟨.hbm, 796, rfl⟩
abbrev main_v652 : Ref sig .tc := ⟨.hbm, 797, rfl⟩
abbrev main_v653 : Ref sig .tc := ⟨.hbm, 798, rfl⟩
abbrev main_v654 : Ref sig .tc := ⟨.hbm, 799, rfl⟩
abbrev main_v655 : Ref sig .tc := ⟨.hbm, 800, rfl⟩
abbrev main_v656 : Ref sig .tc := ⟨.hbm, 801, rfl⟩
abbrev main_v657 : Ref sig .tc := ⟨.hbm, 802, rfl⟩
abbrev main_v658 : Ref sig .tc := ⟨.hbm, 803, rfl⟩
abbrev main_v659 : Ref sig .tc := ⟨.hbm, 804, rfl⟩
abbrev main_cst_129 : Ref sig .tc := ⟨.hbm, 805, rfl⟩
abbrev main_v660 : Ref sig .tc := ⟨.hbm, 806, rfl⟩
abbrev main_v661 : Ref sig .tc := ⟨.hbm, 807, rfl⟩
abbrev main_v662 : Ref sig .tc := ⟨.hbm, 808, rfl⟩
abbrev main_cst_130 : Ref sig .tc := ⟨.hbm, 809, rfl⟩
abbrev main_v663 : Ref sig .tc := ⟨.hbm, 810, rfl⟩
abbrev main_v664 : Ref sig .tc := ⟨.hbm, 811, rfl⟩
abbrev main_v665 : Ref sig .tc := ⟨.hbm, 812, rfl⟩
abbrev main_v666 : Ref sig .tc := ⟨.hbm, 813, rfl⟩
abbrev main_v667 : Ref sig .tc := ⟨.hbm, 814, rfl⟩
abbrev main_v668 : Ref sig .tc := ⟨.hbm, 815, rfl⟩
abbrev main_v669 : Ref sig .tc := ⟨.hbm, 816, rfl⟩
abbrev main_c_131 : Ref sig .tc := ⟨.hbm, 817, rfl⟩
abbrev main_v670 : Ref sig .tc := ⟨.hbm, 818, rfl⟩
abbrev main_v671 : Ref sig .tc := ⟨.hbm, 819, rfl⟩
abbrev main_c_132 : Ref sig .tc := ⟨.hbm, 820, rfl⟩
abbrev main_v672 : Ref sig .tc := ⟨.hbm, 821, rfl⟩
abbrev main_v673 : Ref sig .tc := ⟨.hbm, 822, rfl⟩
abbrev main_v674 : Ref sig .tc := ⟨.hbm, 823, rfl⟩
abbrev main_v675 : Ref sig .tc := ⟨.hbm, 824, rfl⟩
abbrev main_v676 : Ref sig .tc := ⟨.hbm, 825, rfl⟩
abbrev main_v677 : Ref sig .tc := ⟨.hbm, 826, rfl⟩
abbrev main_v678 : Ref sig .tc := ⟨.hbm, 827, rfl⟩
abbrev main_v679 : Ref sig .tc := ⟨.hbm, 828, rfl⟩
abbrev main_cst_133 : Ref sig .tc := ⟨.hbm, 829, rfl⟩
abbrev main_v680 : Ref sig .tc := ⟨.hbm, 830, rfl⟩
abbrev main_v681 : Ref sig .tc := ⟨.hbm, 831, rfl⟩
abbrev main_v682 : Ref sig .tc := ⟨.hbm, 832, rfl⟩
abbrev main_cst_134 : Ref sig .tc := ⟨.hbm, 833, rfl⟩
abbrev main_v683 : Ref sig .tc := ⟨.hbm, 834, rfl⟩
abbrev main_v684 : Ref sig .tc := ⟨.hbm, 835, rfl⟩
abbrev main_v685 : Ref sig .tc := ⟨.hbm, 836, rfl⟩
abbrev main_v686 : Ref sig .tc := ⟨.hbm, 837, rfl⟩
abbrev main_v687 : Ref sig .tc := ⟨.hbm, 838, rfl⟩
abbrev main_v688 : Ref sig .tc := ⟨.hbm, 839, rfl⟩
abbrev main_v689 : Ref sig .tc := ⟨.hbm, 840, rfl⟩
abbrev main_c_135 : Ref sig .tc := ⟨.hbm, 841, rfl⟩
abbrev main_v690 : Ref sig .tc := ⟨.hbm, 842, rfl⟩
abbrev main_v691 : Ref sig .tc := ⟨.hbm, 843, rfl⟩
abbrev main_c_136 : Ref sig .tc := ⟨.hbm, 844, rfl⟩
abbrev main_v692 : Ref sig .tc := ⟨.hbm, 845, rfl⟩
abbrev main_v693 : Ref sig .tc := ⟨.hbm, 846, rfl⟩
abbrev main_v694 : Ref sig .tc := ⟨.hbm, 847, rfl⟩
abbrev main_v695 : Ref sig .tc := ⟨.hbm, 848, rfl⟩
abbrev main_v696 : Ref sig .tc := ⟨.hbm, 849, rfl⟩
abbrev main_v697 : Ref sig .tc := ⟨.hbm, 850, rfl⟩
abbrev main_v698 : Ref sig .tc := ⟨.hbm, 851, rfl⟩
abbrev main_v699 : Ref sig .tc := ⟨.hbm, 852, rfl⟩
abbrev main_cst_137 : Ref sig .tc := ⟨.hbm, 853, rfl⟩
abbrev main_v700 : Ref sig .tc := ⟨.hbm, 854, rfl⟩
abbrev main_v701 : Ref sig .tc := ⟨.hbm, 855, rfl⟩
abbrev main_v702 : Ref sig .tc := ⟨.hbm, 856, rfl⟩
abbrev main_cst_138 : Ref sig .tc := ⟨.hbm, 857, rfl⟩
abbrev main_v703 : Ref sig .tc := ⟨.hbm, 858, rfl⟩
abbrev main_v704 : Ref sig .tc := ⟨.hbm, 859, rfl⟩
abbrev main_v705 : Ref sig .tc := ⟨.hbm, 860, rfl⟩
abbrev main_v706 : Ref sig .tc := ⟨.hbm, 861, rfl⟩
abbrev main_v707 : Ref sig .tc := ⟨.hbm, 862, rfl⟩
abbrev main_v708 : Ref sig .tc := ⟨.hbm, 863, rfl⟩
abbrev main_v709 : Ref sig .tc := ⟨.hbm, 864, rfl⟩
abbrev main_c_139 : Ref sig .tc := ⟨.hbm, 865, rfl⟩
abbrev main_v710 : Ref sig .tc := ⟨.hbm, 866, rfl⟩
abbrev main_v711 : Ref sig .tc := ⟨.hbm, 867, rfl⟩
abbrev main_c_140 : Ref sig .tc := ⟨.hbm, 868, rfl⟩
abbrev main_v712 : Ref sig .tc := ⟨.hbm, 869, rfl⟩
abbrev main_v713 : Ref sig .tc := ⟨.hbm, 870, rfl⟩
abbrev main_v714 : Ref sig .tc := ⟨.hbm, 871, rfl⟩
abbrev main_v715 : Ref sig .tc := ⟨.hbm, 872, rfl⟩
abbrev main_v716 : Ref sig .tc := ⟨.hbm, 873, rfl⟩
abbrev main_v717 : Ref sig .tc := ⟨.hbm, 874, rfl⟩
abbrev main_v718 : Ref sig .tc := ⟨.hbm, 875, rfl⟩
abbrev main_v719 : Ref sig .tc := ⟨.hbm, 876, rfl⟩
abbrev main_cst_141 : Ref sig .tc := ⟨.hbm, 877, rfl⟩
abbrev main_v720 : Ref sig .tc := ⟨.hbm, 878, rfl⟩
abbrev main_v721 : Ref sig .tc := ⟨.hbm, 879, rfl⟩
abbrev main_v722 : Ref sig .tc := ⟨.hbm, 880, rfl⟩
abbrev main_cst_142 : Ref sig .tc := ⟨.hbm, 881, rfl⟩
abbrev main_v723 : Ref sig .tc := ⟨.hbm, 882, rfl⟩
abbrev main_v724 : Ref sig .tc := ⟨.hbm, 883, rfl⟩
abbrev main_v725 : Ref sig .tc := ⟨.hbm, 884, rfl⟩
abbrev main_v726 : Ref sig .tc := ⟨.hbm, 885, rfl⟩
abbrev main_v727 : Ref sig .tc := ⟨.hbm, 886, rfl⟩
abbrev main_v728 : Ref sig .tc := ⟨.hbm, 887, rfl⟩
abbrev main_v729 : Ref sig .tc := ⟨.hbm, 888, rfl⟩
abbrev main_c_143 : Ref sig .tc := ⟨.hbm, 889, rfl⟩
abbrev main_v730 : Ref sig .tc := ⟨.hbm, 890, rfl⟩
abbrev main_v731 : Ref sig .tc := ⟨.hbm, 891, rfl⟩
abbrev main_c_144 : Ref sig .tc := ⟨.hbm, 892, rfl⟩
abbrev main_v732 : Ref sig .tc := ⟨.hbm, 893, rfl⟩
abbrev main_v733 : Ref sig .tc := ⟨.hbm, 894, rfl⟩
abbrev main_v734 : Ref sig .tc := ⟨.hbm, 895, rfl⟩
abbrev main_v735 : Ref sig .tc := ⟨.hbm, 896, rfl⟩
abbrev main_v736 : Ref sig .tc := ⟨.hbm, 897, rfl⟩
abbrev main_v737 : Ref sig .tc := ⟨.hbm, 898, rfl⟩
abbrev main_v738 : Ref sig .tc := ⟨.hbm, 899, rfl⟩
abbrev main_v739 : Ref sig .tc := ⟨.hbm, 900, rfl⟩
abbrev main_cst_145 : Ref sig .tc := ⟨.hbm, 901, rfl⟩
abbrev main_v740 : Ref sig .tc := ⟨.hbm, 902, rfl⟩
abbrev main_v741 : Ref sig .tc := ⟨.hbm, 903, rfl⟩
abbrev main_v742 : Ref sig .tc := ⟨.hbm, 904, rfl⟩
abbrev main_cst_146 : Ref sig .tc := ⟨.hbm, 905, rfl⟩
abbrev main_v743 : Ref sig .tc := ⟨.hbm, 906, rfl⟩
abbrev main_v744 : Ref sig .tc := ⟨.hbm, 907, rfl⟩
abbrev main_v745 : Ref sig .tc := ⟨.hbm, 908, rfl⟩
abbrev main_v746 : Ref sig .tc := ⟨.hbm, 909, rfl⟩
abbrev main_v747 : Ref sig .tc := ⟨.hbm, 910, rfl⟩
abbrev main_v748 : Ref sig .tc := ⟨.hbm, 911, rfl⟩
abbrev main_v749 : Ref sig .tc := ⟨.hbm, 912, rfl⟩
abbrev main_c_147 : Ref sig .tc := ⟨.hbm, 913, rfl⟩
abbrev main_v750 : Ref sig .tc := ⟨.hbm, 914, rfl⟩
abbrev main_v751 : Ref sig .tc := ⟨.hbm, 915, rfl⟩
abbrev main_c_148 : Ref sig .tc := ⟨.hbm, 916, rfl⟩
abbrev main_v752 : Ref sig .tc := ⟨.hbm, 917, rfl⟩
abbrev main_v753 : Ref sig .tc := ⟨.hbm, 918, rfl⟩
abbrev main_v754 : Ref sig .tc := ⟨.hbm, 919, rfl⟩
abbrev main_v755 : Ref sig .tc := ⟨.hbm, 920, rfl⟩
abbrev main_v756 : Ref sig .tc := ⟨.hbm, 921, rfl⟩
abbrev main_v757 : Ref sig .tc := ⟨.hbm, 922, rfl⟩
abbrev main_v758 : Ref sig .tc := ⟨.hbm, 923, rfl⟩
abbrev main_v759 : Ref sig .tc := ⟨.hbm, 924, rfl⟩
abbrev main_cst_149 : Ref sig .tc := ⟨.hbm, 925, rfl⟩
abbrev main_v760 : Ref sig .tc := ⟨.hbm, 926, rfl⟩
abbrev main_v761 : Ref sig .tc := ⟨.hbm, 927, rfl⟩
abbrev main_v762 : Ref sig .tc := ⟨.hbm, 928, rfl⟩
abbrev main_cst_150 : Ref sig .tc := ⟨.hbm, 929, rfl⟩
abbrev main_v763 : Ref sig .tc := ⟨.hbm, 930, rfl⟩
abbrev main_v764 : Ref sig .tc := ⟨.hbm, 931, rfl⟩
abbrev main_v765 : Ref sig .tc := ⟨.hbm, 932, rfl⟩
abbrev main_v766 : Ref sig .tc := ⟨.hbm, 933, rfl⟩
abbrev main_v767 : Ref sig .tc := ⟨.hbm, 934, rfl⟩
abbrev main_v768 : Ref sig .tc := ⟨.hbm, 935, rfl⟩
abbrev main_v769 : Ref sig .tc := ⟨.hbm, 936, rfl⟩
abbrev main_c_151 : Ref sig .tc := ⟨.hbm, 937, rfl⟩
abbrev main_v770 : Ref sig .tc := ⟨.hbm, 938, rfl⟩
abbrev main_v771 : Ref sig .tc := ⟨.hbm, 939, rfl⟩
abbrev main_c_152 : Ref sig .tc := ⟨.hbm, 940, rfl⟩
abbrev main_v772 : Ref sig .tc := ⟨.hbm, 941, rfl⟩
abbrev main_v773 : Ref sig .tc := ⟨.hbm, 942, rfl⟩
abbrev main_v774 : Ref sig .tc := ⟨.hbm, 943, rfl⟩
abbrev main_v775 : Ref sig .tc := ⟨.hbm, 944, rfl⟩
abbrev main_v776 : Ref sig .tc := ⟨.hbm, 945, rfl⟩
abbrev main_v777 : Ref sig .tc := ⟨.hbm, 946, rfl⟩
abbrev main_v778 : Ref sig .tc := ⟨.hbm, 947, rfl⟩
abbrev main_v779 : Ref sig .tc := ⟨.hbm, 948, rfl⟩
abbrev main_cst_153 : Ref sig .tc := ⟨.hbm, 949, rfl⟩
abbrev main_v780 : Ref sig .tc := ⟨.hbm, 950, rfl⟩
abbrev main_v781 : Ref sig .tc := ⟨.hbm, 951, rfl⟩
abbrev main_v782 : Ref sig .tc := ⟨.hbm, 952, rfl⟩
abbrev main_cst_154 : Ref sig .tc := ⟨.hbm, 953, rfl⟩
abbrev main_v783 : Ref sig .tc := ⟨.hbm, 954, rfl⟩
abbrev main_v784 : Ref sig .tc := ⟨.hbm, 955, rfl⟩
abbrev main_v785 : Ref sig .tc := ⟨.hbm, 956, rfl⟩
abbrev main_v786 : Ref sig .tc := ⟨.hbm, 957, rfl⟩
abbrev main_v787 : Ref sig .tc := ⟨.hbm, 958, rfl⟩
abbrev main_v788 : Ref sig .tc := ⟨.hbm, 959, rfl⟩
abbrev main_v789 : Ref sig .tc := ⟨.hbm, 960, rfl⟩
abbrev main_c_155 : Ref sig .tc := ⟨.hbm, 961, rfl⟩
abbrev main_v790 : Ref sig .tc := ⟨.hbm, 962, rfl⟩
abbrev main_v791 : Ref sig .tc := ⟨.hbm, 963, rfl⟩
abbrev main_c_156 : Ref sig .tc := ⟨.hbm, 964, rfl⟩
abbrev main_v792 : Ref sig .tc := ⟨.hbm, 965, rfl⟩
abbrev main_v793 : Ref sig .tc := ⟨.hbm, 966, rfl⟩
abbrev main_v794 : Ref sig .tc := ⟨.hbm, 967, rfl⟩
abbrev main_v795 : Ref sig .tc := ⟨.hbm, 968, rfl⟩
abbrev main_v796 : Ref sig .tc := ⟨.hbm, 969, rfl⟩
abbrev main_v797 : Ref sig .tc := ⟨.hbm, 970, rfl⟩
abbrev main_v798 : Ref sig .tc := ⟨.hbm, 971, rfl⟩
abbrev main_v799 : Ref sig .tc := ⟨.hbm, 972, rfl⟩
abbrev main_cst_157 : Ref sig .tc := ⟨.hbm, 973, rfl⟩
abbrev main_v800 : Ref sig .tc := ⟨.hbm, 974, rfl⟩
abbrev main_v801 : Ref sig .tc := ⟨.hbm, 975, rfl⟩
abbrev main_v802 : Ref sig .tc := ⟨.hbm, 976, rfl⟩
abbrev main_cst_158 : Ref sig .tc := ⟨.hbm, 977, rfl⟩
abbrev main_v803 : Ref sig .tc := ⟨.hbm, 978, rfl⟩
abbrev main_v804 : Ref sig .tc := ⟨.hbm, 979, rfl⟩
abbrev main_v805 : Ref sig .tc := ⟨.hbm, 980, rfl⟩
abbrev main_v806 : Ref sig .tc := ⟨.hbm, 981, rfl⟩
abbrev main_v807 : Ref sig .tc := ⟨.hbm, 982, rfl⟩
abbrev main_v808 : Ref sig .tc := ⟨.hbm, 983, rfl⟩
abbrev main_v809 : Ref sig .tc := ⟨.hbm, 984, rfl⟩
abbrev main_c_159 : Ref sig .tc := ⟨.hbm, 985, rfl⟩
abbrev main_v810 : Ref sig .tc := ⟨.hbm, 986, rfl⟩
abbrev main_v811 : Ref sig .tc := ⟨.hbm, 987, rfl⟩
abbrev main_c_160 : Ref sig .tc := ⟨.hbm, 988, rfl⟩
abbrev main_v812 : Ref sig .tc := ⟨.hbm, 989, rfl⟩
abbrev main_v813 : Ref sig .tc := ⟨.hbm, 990, rfl⟩
abbrev main_v814 : Ref sig .tc := ⟨.hbm, 991, rfl⟩
abbrev main_v815 : Ref sig .tc := ⟨.hbm, 992, rfl⟩
abbrev main_v816 : Ref sig .tc := ⟨.hbm, 993, rfl⟩
abbrev main_v817 : Ref sig .tc := ⟨.hbm, 994, rfl⟩
abbrev main_v818 : Ref sig .tc := ⟨.hbm, 995, rfl⟩
abbrev main_v819 : Ref sig .tc := ⟨.hbm, 996, rfl⟩
abbrev main_cst_161 : Ref sig .tc := ⟨.hbm, 997, rfl⟩
abbrev main_v820 : Ref sig .tc := ⟨.hbm, 998, rfl⟩
abbrev main_v821 : Ref sig .tc := ⟨.hbm, 999, rfl⟩
abbrev main_v822 : Ref sig .tc := ⟨.hbm, 1000, rfl⟩
abbrev main_cst_162 : Ref sig .tc := ⟨.hbm, 1001, rfl⟩
abbrev main_v823 : Ref sig .tc := ⟨.hbm, 1002, rfl⟩
abbrev main_v824 : Ref sig .tc := ⟨.hbm, 1003, rfl⟩
abbrev main_v825 : Ref sig .tc := ⟨.hbm, 1004, rfl⟩
abbrev main_v826 : Ref sig .tc := ⟨.hbm, 1005, rfl⟩
abbrev main_v827 : Ref sig .tc := ⟨.hbm, 1006, rfl⟩
abbrev main_v828 : Ref sig .tc := ⟨.hbm, 1007, rfl⟩
abbrev main_v829 : Ref sig .tc := ⟨.hbm, 1008, rfl⟩
abbrev main_c_163 : Ref sig .tc := ⟨.hbm, 1009, rfl⟩
abbrev main_v830 : Ref sig .tc := ⟨.hbm, 1010, rfl⟩
abbrev main_v831 : Ref sig .tc := ⟨.hbm, 1011, rfl⟩
abbrev main_c_164 : Ref sig .tc := ⟨.hbm, 1012, rfl⟩
abbrev main_v832 : Ref sig .tc := ⟨.hbm, 1013, rfl⟩
abbrev main_v833 : Ref sig .tc := ⟨.hbm, 1014, rfl⟩
abbrev main_v834 : Ref sig .tc := ⟨.hbm, 1015, rfl⟩
abbrev main_v835 : Ref sig .tc := ⟨.hbm, 1016, rfl⟩
abbrev main_v836 : Ref sig .tc := ⟨.hbm, 1017, rfl⟩
abbrev main_v837 : Ref sig .tc := ⟨.hbm, 1018, rfl⟩
abbrev main_v838 : Ref sig .tc := ⟨.hbm, 1019, rfl⟩
abbrev main_v839 : Ref sig .tc := ⟨.hbm, 1020, rfl⟩
abbrev main_cst_165 : Ref sig .tc := ⟨.hbm, 1021, rfl⟩
abbrev main_v840 : Ref sig .tc := ⟨.hbm, 1022, rfl⟩
abbrev main_v841 : Ref sig .tc := ⟨.hbm, 1023, rfl⟩
abbrev main_v842 : Ref sig .tc := ⟨.hbm, 1024, rfl⟩
abbrev main_cst_166 : Ref sig .tc := ⟨.hbm, 1025, rfl⟩
abbrev main_v843 : Ref sig .tc := ⟨.hbm, 1026, rfl⟩
abbrev main_v844 : Ref sig .tc := ⟨.hbm, 1027, rfl⟩
abbrev main_v845 : Ref sig .tc := ⟨.hbm, 1028, rfl⟩
abbrev main_v846 : Ref sig .tc := ⟨.hbm, 1029, rfl⟩
abbrev main_v847 : Ref sig .tc := ⟨.hbm, 1030, rfl⟩
abbrev main_v848 : Ref sig .tc := ⟨.hbm, 1031, rfl⟩
abbrev main_v849 : Ref sig .tc := ⟨.hbm, 1032, rfl⟩
abbrev main_c_167 : Ref sig .tc := ⟨.hbm, 1033, rfl⟩
abbrev main_v850 : Ref sig .tc := ⟨.hbm, 1034, rfl⟩
abbrev main_v851 : Ref sig .tc := ⟨.hbm, 1035, rfl⟩
abbrev main_c_168 : Ref sig .tc := ⟨.hbm, 1036, rfl⟩
abbrev main_v852 : Ref sig .tc := ⟨.hbm, 1037, rfl⟩
abbrev main_v853 : Ref sig .tc := ⟨.hbm, 1038, rfl⟩
abbrev main_v854 : Ref sig .tc := ⟨.hbm, 1039, rfl⟩
abbrev main_v855 : Ref sig .tc := ⟨.hbm, 1040, rfl⟩
abbrev main_v856 : Ref sig .tc := ⟨.hbm, 1041, rfl⟩
abbrev main_v857 : Ref sig .tc := ⟨.hbm, 1042, rfl⟩
abbrev main_v858 : Ref sig .tc := ⟨.hbm, 1043, rfl⟩
abbrev main_v859 : Ref sig .tc := ⟨.hbm, 1044, rfl⟩
abbrev main_cst_169 : Ref sig .tc := ⟨.hbm, 1045, rfl⟩
abbrev main_v860 : Ref sig .tc := ⟨.hbm, 1046, rfl⟩
abbrev main_v861 : Ref sig .tc := ⟨.hbm, 1047, rfl⟩
abbrev main_v862 : Ref sig .tc := ⟨.hbm, 1048, rfl⟩
abbrev main_cst_170 : Ref sig .tc := ⟨.hbm, 1049, rfl⟩
abbrev main_v863 : Ref sig .tc := ⟨.hbm, 1050, rfl⟩
abbrev main_v864 : Ref sig .tc := ⟨.hbm, 1051, rfl⟩
abbrev main_v865 : Ref sig .tc := ⟨.hbm, 1052, rfl⟩
abbrev main_v866 : Ref sig .tc := ⟨.hbm, 1053, rfl⟩
abbrev main_v867 : Ref sig .tc := ⟨.hbm, 1054, rfl⟩
abbrev main_v868 : Ref sig .tc := ⟨.hbm, 1055, rfl⟩
abbrev main_v869 : Ref sig .tc := ⟨.hbm, 1056, rfl⟩
abbrev main_c_171 : Ref sig .tc := ⟨.hbm, 1057, rfl⟩
abbrev main_v870 : Ref sig .tc := ⟨.hbm, 1058, rfl⟩
abbrev main_v871 : Ref sig .tc := ⟨.hbm, 1059, rfl⟩
abbrev main_c_172 : Ref sig .tc := ⟨.hbm, 1060, rfl⟩
abbrev main_v872 : Ref sig .tc := ⟨.hbm, 1061, rfl⟩
abbrev main_v873 : Ref sig .tc := ⟨.hbm, 1062, rfl⟩
abbrev main_v874 : Ref sig .tc := ⟨.hbm, 1063, rfl⟩
abbrev main_v875 : Ref sig .tc := ⟨.hbm, 1064, rfl⟩
abbrev main_v876 : Ref sig .tc := ⟨.hbm, 1065, rfl⟩
abbrev main_v877 : Ref sig .tc := ⟨.hbm, 1066, rfl⟩
abbrev main_v878 : Ref sig .tc := ⟨.hbm, 1067, rfl⟩
abbrev main_v879 : Ref sig .tc := ⟨.hbm, 1068, rfl⟩
abbrev main_cst_173 : Ref sig .tc := ⟨.hbm, 1069, rfl⟩
abbrev main_v880 : Ref sig .tc := ⟨.hbm, 1070, rfl⟩
abbrev main_v881 : Ref sig .tc := ⟨.hbm, 1071, rfl⟩
abbrev main_v882 : Ref sig .tc := ⟨.hbm, 1072, rfl⟩
abbrev main_cst_174 : Ref sig .tc := ⟨.hbm, 1073, rfl⟩
abbrev main_v883 : Ref sig .tc := ⟨.hbm, 1074, rfl⟩
abbrev main_v884 : Ref sig .tc := ⟨.hbm, 1075, rfl⟩
abbrev main_v885 : Ref sig .tc := ⟨.hbm, 1076, rfl⟩
abbrev main_v886 : Ref sig .tc := ⟨.hbm, 1077, rfl⟩
abbrev main_v887 : Ref sig .tc := ⟨.hbm, 1078, rfl⟩
abbrev main_v888 : Ref sig .tc := ⟨.hbm, 1079, rfl⟩
abbrev main_v889 : Ref sig .tc := ⟨.hbm, 1080, rfl⟩
abbrev main_c_175 : Ref sig .tc := ⟨.hbm, 1081, rfl⟩
abbrev main_v890 : Ref sig .tc := ⟨.hbm, 1082, rfl⟩
abbrev main_v891 : Ref sig .tc := ⟨.hbm, 1083, rfl⟩
abbrev main_c_176 : Ref sig .tc := ⟨.hbm, 1084, rfl⟩
abbrev main_v892 : Ref sig .tc := ⟨.hbm, 1085, rfl⟩
abbrev main_v893 : Ref sig .tc := ⟨.hbm, 1086, rfl⟩
abbrev main_v894 : Ref sig .tc := ⟨.hbm, 1087, rfl⟩
abbrev main_v895 : Ref sig .tc := ⟨.hbm, 1088, rfl⟩
abbrev main_v896 : Ref sig .tc := ⟨.hbm, 1089, rfl⟩
abbrev main_v897 : Ref sig .tc := ⟨.hbm, 1090, rfl⟩
abbrev main_v898 : Ref sig .tc := ⟨.hbm, 1091, rfl⟩
abbrev main_v899 : Ref sig .tc := ⟨.hbm, 1092, rfl⟩
abbrev main_cst_177 : Ref sig .tc := ⟨.hbm, 1093, rfl⟩
abbrev main_v900 : Ref sig .tc := ⟨.hbm, 1094, rfl⟩
abbrev main_v901 : Ref sig .tc := ⟨.hbm, 1095, rfl⟩
abbrev main_v902 : Ref sig .tc := ⟨.hbm, 1096, rfl⟩
abbrev main_cst_178 : Ref sig .tc := ⟨.hbm, 1097, rfl⟩
abbrev main_v903 : Ref sig .tc := ⟨.hbm, 1098, rfl⟩
abbrev main_v904 : Ref sig .tc := ⟨.hbm, 1099, rfl⟩
abbrev main_v905 : Ref sig .tc := ⟨.hbm, 1100, rfl⟩
abbrev main_v906 : Ref sig .tc := ⟨.hbm, 1101, rfl⟩
abbrev main_v907 : Ref sig .tc := ⟨.hbm, 1102, rfl⟩
abbrev main_v908 : Ref sig .tc := ⟨.hbm, 1103, rfl⟩
abbrev main_v909 : Ref sig .tc := ⟨.hbm, 1104, rfl⟩
abbrev main_c_179 : Ref sig .tc := ⟨.hbm, 1105, rfl⟩
abbrev main_v910 : Ref sig .tc := ⟨.hbm, 1106, rfl⟩
abbrev main_v911 : Ref sig .tc := ⟨.hbm, 1107, rfl⟩
abbrev main_c_180 : Ref sig .tc := ⟨.hbm, 1108, rfl⟩
abbrev main_v912 : Ref sig .tc := ⟨.hbm, 1109, rfl⟩
abbrev main_v913 : Ref sig .tc := ⟨.hbm, 1110, rfl⟩
abbrev main_v914 : Ref sig .tc := ⟨.hbm, 1111, rfl⟩
abbrev main_v915 : Ref sig .tc := ⟨.hbm, 1112, rfl⟩
abbrev main_v916 : Ref sig .tc := ⟨.hbm, 1113, rfl⟩
abbrev main_v917 : Ref sig .tc := ⟨.hbm, 1114, rfl⟩
abbrev main_v918 : Ref sig .tc := ⟨.hbm, 1115, rfl⟩
abbrev main_v919 : Ref sig .tc := ⟨.hbm, 1116, rfl⟩
abbrev main_cst_181 : Ref sig .tc := ⟨.hbm, 1117, rfl⟩
abbrev main_v920 : Ref sig .tc := ⟨.hbm, 1118, rfl⟩
abbrev main_v921 : Ref sig .tc := ⟨.hbm, 1119, rfl⟩
abbrev main_v922 : Ref sig .tc := ⟨.hbm, 1120, rfl⟩
abbrev main_cst_182 : Ref sig .tc := ⟨.hbm, 1121, rfl⟩
abbrev main_v923 : Ref sig .tc := ⟨.hbm, 1122, rfl⟩
abbrev main_v924 : Ref sig .tc := ⟨.hbm, 1123, rfl⟩
abbrev main_v925 : Ref sig .tc := ⟨.hbm, 1124, rfl⟩
abbrev main_v926 : Ref sig .tc := ⟨.hbm, 1125, rfl⟩
abbrev main_v927 : Ref sig .tc := ⟨.hbm, 1126, rfl⟩
abbrev main_v928 : Ref sig .tc := ⟨.hbm, 1127, rfl⟩
abbrev main_v929 : Ref sig .tc := ⟨.hbm, 1128, rfl⟩
abbrev main_c_183 : Ref sig .tc := ⟨.hbm, 1129, rfl⟩
abbrev main_v930 : Ref sig .tc := ⟨.hbm, 1130, rfl⟩
abbrev main_v931 : Ref sig .tc := ⟨.hbm, 1131, rfl⟩
abbrev main_c_184 : Ref sig .tc := ⟨.hbm, 1132, rfl⟩
abbrev main_v932 : Ref sig .tc := ⟨.hbm, 1133, rfl⟩
abbrev main_v933 : Ref sig .tc := ⟨.hbm, 1134, rfl⟩
abbrev main_v934 : Ref sig .tc := ⟨.hbm, 1135, rfl⟩
abbrev main_v935 : Ref sig .tc := ⟨.hbm, 1136, rfl⟩
abbrev main_v936 : Ref sig .tc := ⟨.hbm, 1137, rfl⟩
abbrev main_v937 : Ref sig .tc := ⟨.hbm, 1138, rfl⟩
abbrev main_v938 : Ref sig .tc := ⟨.hbm, 1139, rfl⟩
abbrev main_v939 : Ref sig .tc := ⟨.hbm, 1140, rfl⟩
abbrev main_cst_185 : Ref sig .tc := ⟨.hbm, 1141, rfl⟩
abbrev main_v940 : Ref sig .tc := ⟨.hbm, 1142, rfl⟩
abbrev main_v941 : Ref sig .tc := ⟨.hbm, 1143, rfl⟩
abbrev main_v942 : Ref sig .tc := ⟨.hbm, 1144, rfl⟩
abbrev main_cst_186 : Ref sig .tc := ⟨.hbm, 1145, rfl⟩
abbrev main_v943 : Ref sig .tc := ⟨.hbm, 1146, rfl⟩
abbrev main_v944 : Ref sig .tc := ⟨.hbm, 1147, rfl⟩
abbrev main_v945 : Ref sig .tc := ⟨.hbm, 1148, rfl⟩
abbrev main_v946 : Ref sig .tc := ⟨.hbm, 1149, rfl⟩
abbrev main_v947 : Ref sig .tc := ⟨.hbm, 1150, rfl⟩
abbrev main_v948 : Ref sig .tc := ⟨.hbm, 1151, rfl⟩
abbrev main_v949 : Ref sig .tc := ⟨.hbm, 1152, rfl⟩
abbrev main_c_187 : Ref sig .tc := ⟨.hbm, 1153, rfl⟩
abbrev main_v950 : Ref sig .tc := ⟨.hbm, 1154, rfl⟩
abbrev main_v951 : Ref sig .tc := ⟨.hbm, 1155, rfl⟩
abbrev main_c_188 : Ref sig .tc := ⟨.hbm, 1156, rfl⟩
abbrev main_v952 : Ref sig .tc := ⟨.hbm, 1157, rfl⟩
abbrev main_v953 : Ref sig .tc := ⟨.hbm, 1158, rfl⟩
abbrev main_v954 : Ref sig .tc := ⟨.hbm, 1159, rfl⟩
abbrev main_v955 : Ref sig .tc := ⟨.hbm, 1160, rfl⟩
abbrev main_v956 : Ref sig .tc := ⟨.hbm, 1161, rfl⟩
abbrev main_v957 : Ref sig .tc := ⟨.hbm, 1162, rfl⟩
abbrev main_v958 : Ref sig .tc := ⟨.hbm, 1163, rfl⟩
abbrev main_v959 : Ref sig .tc := ⟨.hbm, 1164, rfl⟩
abbrev main_cst_189 : Ref sig .tc := ⟨.hbm, 1165, rfl⟩
abbrev main_v960 : Ref sig .tc := ⟨.hbm, 1166, rfl⟩
abbrev main_v961 : Ref sig .tc := ⟨.hbm, 1167, rfl⟩
abbrev main_v962 : Ref sig .tc := ⟨.hbm, 1168, rfl⟩
abbrev main_cst_190 : Ref sig .tc := ⟨.hbm, 1169, rfl⟩
abbrev main_v963 : Ref sig .tc := ⟨.hbm, 1170, rfl⟩
abbrev main_v964 : Ref sig .tc := ⟨.hbm, 1171, rfl⟩
abbrev main_v965 : Ref sig .tc := ⟨.hbm, 1172, rfl⟩
abbrev main_v966 : Ref sig .tc := ⟨.hbm, 1173, rfl⟩
abbrev main_v967 : Ref sig .tc := ⟨.hbm, 1174, rfl⟩
abbrev main_v968 : Ref sig .tc := ⟨.hbm, 1175, rfl⟩
abbrev main_v969 : Ref sig .tc := ⟨.hbm, 1176, rfl⟩
abbrev main_c_191 : Ref sig .tc := ⟨.hbm, 1177, rfl⟩
abbrev main_v970 : Ref sig .tc := ⟨.hbm, 1178, rfl⟩
abbrev main_v971 : Ref sig .tc := ⟨.hbm, 1179, rfl⟩
abbrev main_c_192 : Ref sig .tc := ⟨.hbm, 1180, rfl⟩
abbrev main_v972 : Ref sig .tc := ⟨.hbm, 1181, rfl⟩
abbrev main_v973 : Ref sig .tc := ⟨.hbm, 1182, rfl⟩
abbrev main_v974 : Ref sig .tc := ⟨.hbm, 1183, rfl⟩
abbrev main_v975 : Ref sig .tc := ⟨.hbm, 1184, rfl⟩
abbrev main_v976 : Ref sig .tc := ⟨.hbm, 1185, rfl⟩
abbrev main_v977 : Ref sig .tc := ⟨.hbm, 1186, rfl⟩
abbrev main_v978 : Ref sig .tc := ⟨.hbm, 1187, rfl⟩
abbrev main_v979 : Ref sig .tc := ⟨.hbm, 1188, rfl⟩
abbrev main_cst_193 : Ref sig .tc := ⟨.hbm, 1189, rfl⟩
abbrev main_v980 : Ref sig .tc := ⟨.hbm, 1190, rfl⟩
abbrev main_v981 : Ref sig .tc := ⟨.hbm, 1191, rfl⟩
abbrev main_v982 : Ref sig .tc := ⟨.hbm, 1192, rfl⟩
abbrev main_cst_194 : Ref sig .tc := ⟨.hbm, 1193, rfl⟩
abbrev main_v983 : Ref sig .tc := ⟨.hbm, 1194, rfl⟩
abbrev main_v984 : Ref sig .tc := ⟨.hbm, 1195, rfl⟩
abbrev main_v985 : Ref sig .tc := ⟨.hbm, 1196, rfl⟩
abbrev main_v986 : Ref sig .tc := ⟨.hbm, 1197, rfl⟩
abbrev main_v987 : Ref sig .tc := ⟨.hbm, 1198, rfl⟩
abbrev main_v988 : Ref sig .tc := ⟨.hbm, 1199, rfl⟩
abbrev main_v989 : Ref sig .tc := ⟨.hbm, 1200, rfl⟩
abbrev main_c_195 : Ref sig .tc := ⟨.hbm, 1201, rfl⟩
abbrev main_v990 : Ref sig .tc := ⟨.hbm, 1202, rfl⟩
abbrev main_v991 : Ref sig .tc := ⟨.hbm, 1203, rfl⟩
abbrev main_c_196 : Ref sig .tc := ⟨.hbm, 1204, rfl⟩
abbrev main_v992 : Ref sig .tc := ⟨.hbm, 1205, rfl⟩
abbrev main_v993 : Ref sig .tc := ⟨.hbm, 1206, rfl⟩
abbrev main_v994 : Ref sig .tc := ⟨.hbm, 1207, rfl⟩
abbrev main_v995 : Ref sig .tc := ⟨.hbm, 1208, rfl⟩
abbrev main_v996 : Ref sig .tc := ⟨.hbm, 1209, rfl⟩
abbrev main_v997 : Ref sig .tc := ⟨.hbm, 1210, rfl⟩
abbrev main_v998 : Ref sig .tc := ⟨.hbm, 1211, rfl⟩
abbrev main_v999 : Ref sig .tc := ⟨.hbm, 1212, rfl⟩
abbrev main_cst_197 : Ref sig .tc := ⟨.hbm, 1213, rfl⟩
abbrev main_v1000 : Ref sig .tc := ⟨.hbm, 1214, rfl⟩
abbrev main_v1001 : Ref sig .tc := ⟨.hbm, 1215, rfl⟩
abbrev main_v1002 : Ref sig .tc := ⟨.hbm, 1216, rfl⟩
abbrev main_cst_198 : Ref sig .tc := ⟨.hbm, 1217, rfl⟩
abbrev main_v1003 : Ref sig .tc := ⟨.hbm, 1218, rfl⟩
abbrev main_v1004 : Ref sig .tc := ⟨.hbm, 1219, rfl⟩
abbrev main_v1005 : Ref sig .tc := ⟨.hbm, 1220, rfl⟩
abbrev main_v1006 : Ref sig .tc := ⟨.hbm, 1221, rfl⟩
abbrev main_v1007 : Ref sig .tc := ⟨.hbm, 1222, rfl⟩
abbrev main_v1008 : Ref sig .tc := ⟨.hbm, 1223, rfl⟩
abbrev main_v1009 : Ref sig .tc := ⟨.hbm, 1224, rfl⟩
abbrev main_v1010 : Ref sig .tc := ⟨.hbm, 1225, rfl⟩
abbrev main_v1011 : Ref sig .tc := ⟨.hbm, 1226, rfl⟩
abbrev main_v1012 : Ref sig .tc := ⟨.hbm, 1227, rfl⟩
abbrev main_call2_cst : Ref sig .tc := ⟨.hbm, 1228, rfl⟩
abbrev main_call2_v0 : Ref sig .tc := ⟨.hbm, 1229, rfl⟩
abbrev main_v1013 : Ref sig .tc := ⟨.hbm, 1230, rfl⟩
abbrev main_v1014 : Ref sig .tc := ⟨.hbm, 1231, rfl⟩
abbrev main_v1015 : Ref sig .tc := ⟨.hbm, 1232, rfl⟩
abbrev main_v1016 : Ref sig .tc := ⟨.hbm, 1233, rfl⟩
abbrev main_v1017 : Ref sig .tc := ⟨.hbm, 1234, rfl⟩
abbrev main_v1018 : Ref sig .tc := ⟨.hbm, 1235, rfl⟩
abbrev main_v1019 : Ref sig .tc := ⟨.hbm, 1236, rfl⟩
abbrev main_v1020 : Ref sig .tc := ⟨.hbm, 1237, rfl⟩
abbrev main_v1021 : Ref sig .tc := ⟨.hbm, 1238, rfl⟩
abbrev main_v1022 : Ref sig .tc := ⟨.hbm, 1239, rfl⟩
abbrev main_v1023 : Ref sig .tc := ⟨.hbm, 1240, rfl⟩
abbrev main_call3_cst : Ref sig .tc := ⟨.hbm, 1241, rfl⟩
abbrev main_call3_v0 : Ref sig .tc := ⟨.hbm, 1242, rfl⟩
abbrev main_call3_cst_0 : Ref sig .tc := ⟨.hbm, 1243, rfl⟩
abbrev main_call3_v1 : Ref sig .tc := ⟨.hbm, 1244, rfl⟩
abbrev main_call3_v2 : Ref sig .tc := ⟨.hbm, 1245, rfl⟩
abbrev main_call3_v3 : Ref sig .tc := ⟨.hbm, 1246, rfl⟩
abbrev main_call3_v4 : Ref sig .tc := ⟨.hbm, 1247, rfl⟩
abbrev main_call3_v5 : Ref sig .tc := ⟨.hbm, 1248, rfl⟩
abbrev main_call3_v6 : Ref sig .tc := ⟨.hbm, 1249, rfl⟩
abbrev main_call3_cst_1 : Ref sig .tc := ⟨.hbm, 1250, rfl⟩
abbrev main_call3_v7 : Ref sig .tc := ⟨.hbm, 1251, rfl⟩
abbrev main_call3_v8 : Ref sig .tc := ⟨.hbm, 1252, rfl⟩
abbrev main_call3_v9 : Ref sig .tc := ⟨.hbm, 1253, rfl⟩
abbrev main_call3_v10 : Ref sig .tc := ⟨.hbm, 1254, rfl⟩
abbrev main_v1024 : Ref sig .tc := ⟨.hbm, 1255, rfl⟩

abbrev nD : Nat := 1
abbrev τ : Topo := Topo.v7x

variable {F : FTy → Type} [FloatOps F]
-- ==== Proof.HostKeeps.lean ====
/-
  A line of host operations that writes its buffers in order, one number after the other, leaves every buffer below the first
  of them as it was. The list of the written buffers is not spelt out: it is the run of numbers, and that the operations
  write these is one equation of lists that holds by computation.
-/
module

public import Idealize.ShloMosaic.Lib.StableHlo.Run

@[expose] public section

noncomputable section

namespace Cert.HostKeeps

open Idealize.ShloMosaic Idealize.ShloMosaic.StableHlo

variable {τ : Topo} {S : RefSig} {Val : EltTy → Type}

/-- The device-memory buffers numbered `lo`, `lo + 1`, … , `k` of them. -/
def bufs (S : RefSig) (hn : ∀ i, S.names .tc .hbm i = true) : ℕ → ℕ → List (Ref S .tc)
  | _, 0 => []
  | lo, k + 1 => if h : lo < S.nNear .tc .hbm then ⟨.hbm, ⟨lo, h⟩, hn _⟩ :: bufs S hn (lo + 1) k else []

/-- Each of them is numbered `lo` or above. -/
theorem le_of_mem_bufs {hn : ∀ i, S.names .tc .hbm i = true} {r : Ref S .tc} :
    ∀ {k lo : ℕ}, r ∈ bufs S hn lo k → r.space = .hbm ∧ lo ≤ r.idx.val
  | 0, _, h => absurd h List.not_mem_nil
  | k + 1, lo, h => by
    unfold bufs at h
    split at h
    · rcases List.mem_cons.mp h with rfl | h
      · exact ⟨rfl, le_rfl⟩
      · exact ⟨(le_of_mem_bufs h).1, (Nat.le_succ lo).trans (le_of_mem_bufs h).2⟩
    · exact absurd h List.not_mem_nil

/-- A line that writes the buffers `lo`, `lo + 1`, … keeps the contents of every buffer below `lo`. -/
theorem after_keeps {hn : ∀ i, S.names .tc .hbm i = true} {ops : List (HloOp τ S Val)} {lo k : ℕ}
    (h : ops.map HloOp.writes = (bufs S hn lo k).map fun r => {Proc.devRef (τ := τ) .tc r}) (V : Valuation τ S Val)
    {r : Ref S .tc} (hr : r.idx.val < lo) : after ops V (Proc.devRef .tc r) = V (Proc.devRef .tc r) :=
  after_of_writes_sub ops V (forall_writes_sub_of_map h) fun hm => absurd (le_of_mem_bufs hm).2 (Nat.not_le.mpr hr)

/-- No operation of such a line writes a buffer below `lo`. -/
theorem not_mem_writes {hn : ∀ i, S.names .tc .hbm i = true} {ops : List (HloOp τ S Val)} {lo k : ℕ}
    (h : ops.map HloOp.writes = (bufs S hn lo k).map fun r => {Proc.devRef (τ := τ) .tc r}) {op : HloOp τ S Val}
    (hop : op ∈ ops) {r : Ref S .tc} (hr : r.idx.val < lo) : Proc.devRef .tc r ∉ op.writes := fun hm => by
  obtain ⟨y, hy, he⟩ := List.mem_map.mp (List.mem_toFinset.mp
    ((List.forall_iff_forall_mem.mp (forall_writes_sub_of_map h)) op hop hm))
  exact absurd (le_of_mem_bufs (Proc.devRef_injective _ he ▸ hy)).2 (Nat.not_le.mpr hr)

end Cert.HostKeeps

end
-- ==== Proof.Entry.lean ====
/-
  What surrounds the region: the host lines before it and after it, what they write, the blocks the windows cut out of the
  arrays the region finds, the condition of the body's branch, and the frame claim read off a run of the whole program.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.HostKeeps
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The contents of device `c`'s buffers when the region is entered: what the lines before it leave of the launch contents. -/
abbrev V0 (c : Dev nD) : Valuation τ sig (Elt F) := StableHlo.after (List.flatten [hostOps0, hostOps0_1, hostOps0_2, hostOps0_3, hostOps0_4, hostOps0_5, hostOps0_6]) (fun b => m (c, b))
/-- The contents of one buffer then. -/
abbrev V (c : Dev nD) (b : Ref sig .tc) : Buf (Elt F) ((c : Thread nD τ).loc b) := V0 m c (Proc.devRef .tc b)

/-- The lines before the region. -/
abbrev prefixOps : List (HloOp τ sig (Elt F)) :=
  List.flatten [hostOps0, hostOps0_1, hostOps0_2, hostOps0_3, hostOps0_4, hostOps0_5, hostOps0_6]

/-- Every device-memory buffer has a name on the TensorCore. -/
theorem named : ∀ i, sig.names .tc .hbm i = true := fun _ => rfl

/-- The lines before the region write the buffers 10, 11, … 1232, one each, in this order. -/
theorem prefix_writes : (prefixOps (F := F)).map HloOp.writes
    = (Cert.HostKeeps.bufs sig named 10 1223).map fun r => {Proc.devRef (τ := τ) .tc r} := by chain_rfl

/-- The lines after the region write the buffers 1234, … 1252, one each, in this order. -/
theorem tail_writes : (List.flatten [hostOps1, hostOps1_1] : List (HloOp τ sig (Elt F))).map HloOp.writes
    = (Cert.HostKeeps.bufs sig named 1234 19).map fun r => {Proc.devRef (τ := τ) .tc r} := by chain_rfl

/-- The region finds every argument as launched. -/
theorem V_arg (c : Dev nD) (r : Ref sig .tc) (hr : r.idx.val < 10) : V m c r = m ((c : Thread nD τ).loc r) :=
  Cert.HostKeeps.after_keeps prefix_writes _ hr

/-- An argument that is no array of the region ends as launched. -/
theorem W_arg (dats : (p : Fin _) → (c : Dev nD) → Dat τ (Elt F) Unit ℕ (UR sig nD τ) ℕ (cfgs p) c) (c : Dev nD)
    (r : Ref sig .tc) (hr : r.idx.val < 10) (ha : ∀ w, Pipeline.arrRef spec0 w ≠ r) :
    Pipeline.afterTail₀ cfgs dats 0 (V0 m) [hostOps1, hostOps1_1] c r = m ((c : Thread nD τ).loc r) := by
  unfold Pipeline.afterTail₀
  rw [Cert.HostKeeps.after_keeps tail_writes _ (show r.idx.val < 1234 by omega),
    Pipeline.withArrays_of_ne _ c (V0 m c) _ r ha]
  exact V_arg m c r hr

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
/-- The program is its lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1].map StableHlo.seq)) :=
  Pipeline.hmain_around cfgs 0 defs₀ 𝒱₀ m main [hostOps0, hostOps0_1, hostOps0_2, hostOps0_3, hostOps0_4, hostOps0_5, hostOps0_6] [hostOps1, hostOps1_1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch nothing but the region's arrays and the buffers beside them. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline: those are numbered below 1234. -/
theorem sfx_keeps : ∀ ops ∈ ([hostOps1, hostOps1_1] : List (List (HloOp τ sig (Elt F)))), ∀ op ∈ ops,
    ∀ w, Proc.devRef .tc (Pipeline.arrRef spec0 w) ∉ op.writes := fun ops hops op hop w =>
  Cert.HostKeeps.not_mem_writes tail_writes (List.mem_flatten.mpr ⟨ops, hops, hop⟩)
    ((by decide : ∀ w, (Pipeline.arrRef spec0 w).idx.val < 1234) w)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the buffer of the left factor holds the block of that point, for any contents function that leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the right factor. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the bias. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end of a run -/

/-- A run that ends with the region's arrays and all other buffers at their named contents leaves every argument as
    launched: the two the region reads are inputs of it, and no line writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_arg m dats c main_arg0 (by decide) (by decide))),
      (((h c).2 main_arg1 (Pipeline.mem_restRefs_of main_arg1 (by decide) (by decide))).trans (W_arg m dats c main_arg1 (by decide) (by decide))),
      (((h c).2 main_arg2 (Pipeline.mem_restRefs_of main_arg2 (by decide) (by decide))).trans (W_arg m dats c main_arg2 (by decide) (by decide))),
      (((h c).2 main_arg3 (Pipeline.mem_restRefs_of main_arg3 (by decide) (by decide))).trans (W_arg m dats c main_arg3 (by decide) (by decide))),
      (((h c).2 main_arg4 (Pipeline.mem_restRefs_of main_arg4 (by decide) (by decide))).trans (W_arg m dats c main_arg4 (by decide) (by decide))),
      (((h c).2 main_arg5 (Pipeline.mem_restRefs_of main_arg5 (by decide) (by decide))).trans (W_arg m dats c main_arg5 (by decide) (by decide))),
      ((h c).1 1).trans (((dats 0 c).arrAt_in 1 rfl _).trans ((hA c 1).trans (V_arg m c main_arg6 (by decide)))),
      ((h c).1 2).trans (((dats 0 c).arrAt_in 2 rfl _).trans ((hA c 2).trans (V_arg m c main_arg7 (by decide)))),
      (((h c).2 main_arg8 (Pipeline.mem_restRefs_of main_arg8 (by decide) (by decide))).trans (W_arg m dats c main_arg8 (by decide) (by decide))),
      (((h c).2 main_arg9 (Pipeline.mem_restRefs_of main_arg9 (by decide) (by decide))).trans (W_arg m dats c main_arg9 (by decide) (by decide)))⟩) h

/-! ## The body's branch conditions -/

/-- The condition of the body's branch: the grid coordinate is zero. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 125 = 0 :=
  (fun t => by
    have ht : t.val < 125 := Nat.lt_of_lt_of_eq t.isLt N_0
    have e0 : (grid0.coords t 0).val = t.val / 1 % 125 := Pipeline.Grid.coords_val t 0 (by decide) rfl
    simp only [cond0_0, e0]
    word_cmp
   : ∀ t : Fin grid0.N, cond0_0 (grid0.coords t) ↔ t.val % 125 = 0)

/-! ## The buffers the body is given -/

/-- One buffer of the result's block, through which its contents are stated. -/
abbrev VO0_3 : View sig .tc .vmem S8x512 .f32 := (Memref.whole cc0_stg3_0 : Memref sig .tc .vmem S8x512 .f32).view
/-- Each window's buffer at point `t`, and that it is a whole one. -/
abbrev ms0_0 (t : Fin cfg0.N) : Memref sig .tc .vmem S8x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)

end Cert.KernelIdeal.Region

end
-- ==== Proof.BodyFirst.lean ====
/-
  The body at the first point: the run that fills the output block with the bias and adds the first product.
-/
module

public import proofs.«01_k».proof.Proof.Entry

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Where the branch is taken, the body runs from any buffers: it leaves its inputs as they were and the result's buffer with
    the listed stores made (the last one first). The list is the one the run itself finds. -/
noncomputable def kernelRun0_A (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : cond0_0 i)
    (x0 : Vec F S8x5120 .f32) (x1 : Vec F S5120x512 .f32) (x2 : Vec F S512 .f32) :
    { L3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__fc1_body i arg1 harg1 arg2 harg2 arg3 harg3 arg4 harg4) K } := by
  refine ⟨?_, fun E K => ?run⟩
  case run =>
    simp only [cc0__fc1_body_eq_skeleton]; unfold cc0__fc1_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Region

end
-- ==== Proof.BodyLater.lean ====
/-
  The body at a later point: the run that adds a product to what the output block holds.
-/
module

public import proofs.«01_k».proof.Proof.BodyFirst

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Where the branch is not taken, the body runs from any buffers, the result's holding `xo3`: it leaves its inputs as they
    were and the result's buffer with the listed store made. The list is the one the run itself finds. -/
noncomputable def kernelRun0_B (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : ¬cond0_0 i)
    (x0 : Vec F S8x5120 .f32) (x1 : Vec F S5120x512 .f32) (x2 : Vec F S512 .f32) (xo3 : Vec F S8x512 .f32) :
    { L3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__fc1_body i arg1 harg1 arg2 harg2 arg3 harg3 arg4 harg4) K } := by
  refine ⟨?_, fun E K => ?run⟩
  case run =>
    simp only [cc0__fc1_body_eq_skeleton]; unfold cc0__fc1_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Region

end
-- ==== Proof.RegionFrame.lean ====
/-
  The region point by point, the run of the whole program and its frame.
-/
module

public import proofs.«01_k».proof.Proof.BodyLater
public import Idealize.ShloMosaic.Lib.Claim

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of the first point cover the result's block. -/
theorem cover0_A_3 (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : cond0_0 i)
    (x0 : Vec F S8x5120 .f32) (x1 : Vec F S5120x512 .f32) (x2 : Vec F S512 .f32) (y : S8x512.Idx) :
    ∃ pc ∈ (kernelRun0_A c i arg1 harg1 arg2 harg2 arg3 harg3 arg4 harg4 hc0 x0 x1 x2).1, y ∈ pc.1.set :=
  View.cover_of_tiledL (kernelRun0_A c i arg1 harg1 arg2 harg2 arg3 harg3 arg4 harg4 hc0 x0 x1 x2).1 S8x512.size (by sl_kernel_rfl) y

/-- What the first point leaves in the result's buffer. -/
def out0_A_3 (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : cond0_0 i)
    (x0 : Vec F S8x5120 .f32) (x1 : Vec F S5120x512 .f32) (x2 : Vec F S512 .f32) : Vec F S8x512 .f32 :=
  VO0_3.read (Elt F) (VO0_3.writes (Elt F) VO0_3.junk (kernelRun0_A c i arg1 harg1 arg2 harg2 arg3 harg3 arg4 harg4 hc0 x0 x1 x2).1)

/-- The store of a later point covers the result's block. -/
theorem cover0_B_3 (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : ¬cond0_0 i)
    (x0 : Vec F S8x5120 .f32) (x1 : Vec F S5120x512 .f32) (x2 : Vec F S512 .f32) (xo3 : Vec F S8x512 .f32) (y : S8x512.Idx) :
    ∃ pc ∈ (kernelRun0_B c i arg1 harg1 arg2 harg2 arg3 harg3 arg4 harg4 hc0 x0 x1 x2 xo3).1, y ∈ pc.1.set :=
  View.cover_of_tiledL (kernelRun0_B c i arg1 harg1 arg2 harg2 arg3 harg3 arg4 harg4 hc0 x0 x1 x2 xo3).1 S8x512.size (by sl_kernel_rfl) y

/-- What a later point leaves in the result's buffer, which held `xo3`. -/
def out0_B_3 (c : Dev nD) (i : grid0.Coords) (arg1 : Memref sig .tc .vmem S8x5120 .f32) (harg1 : arg1.IsWhole) (arg2 : Memref sig .tc .vmem S5120x512 .f32) (harg2 : arg2.IsWhole) (arg3 : Memref sig .tc .vmem S512 .f32) (harg3 : arg3.IsWhole) (arg4 : Memref sig .tc .vmem S8x512 .f32) (harg4 : arg4.IsWhole) (hc0 : ¬cond0_0 i)
    (x0 : Vec F S8x5120 .f32) (x1 : Vec F S5120x512 .f32) (x2 : Vec F S512 .f32) (xo3 : Vec F S8x512 .f32) : Vec F S8x512 .f32 :=
  VO0_3.read (Elt F) (VO0_3.writes (Elt F) VO0_3.junk (kernelRun0_B c i arg1 harg1 arg2 harg2 arg3 harg3 arg4 harg4 hc0 x0 x1 x2 xo3).1)

/-! ## What the outputs hold after each point -/

/-- What the result's buffer holds after point `n`, point by point: the first point starts afresh, a later one goes on from
    what the one before it left. -/
def outsAt0 (c : Dev nD) : (n : ℕ) → n < cfg0.N → Vec F S8x512 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 125 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- After the first point. -/
theorem outsAt0_A (c : Dev nD) (t : Fin cfg0.N) (h0 : t.val % 125 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- After a later point. -/
theorem outsAt0_B (c : Dev nD) (t : Fin cfg0.N) (h0 : ¬t.val % 125 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- What the run of the grid is stated over: the arrays as the region finds them, and each window's buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- Before a later point the result's buffer holds what the point before left: nothing is written back between. -/
theorem before0_3_B (c : Dev nD) (t : Fin cfg0.N) (h0 : ¬t.val % 125 = 0) (d) :
    (dats m 0 c).before 3 t d = (outsAt0 m c (t.val - 1) (Nat.lt_of_le_of_lt (Nat.sub_le _ _) t.isLt)) := by
  have hN : t.val < 125 := lt_of_lt_of_eq t.isLt (show cfg0.N = 125 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point takes the one to the other: the point decides the branch, and the run of that branch applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 125 := lt_of_lt_of_eq t.isLt (show cfg0.N = 125 from N_0)
  by_cases h0 : t.val % 125 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body the grid calls at point `t` is the printed one. -/
theorem defs₀_row (t : Fin cfg0.N) :
    defs₀ (F := F) .tc cfg0.body (cfg0.bodyArgs t (cfg0.slots t)) = bodyAt0 t := by
  unfold defs₀; rw [Defs.onTc_tc]

/-- The same, as the grid's rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run of the program ends with the region's arrays at the contents the grid leaves, every other buffer at what the
    lines after the region leave, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- Every run ends with the arguments as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every run ends with the arguments as launched and every counter at zero, at any values `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Region

end
-- ==== Proof.FrameBits.lean ====
/-
  The frame of the kernel as compiled: its program is the idealized one's, read at words instead of at exact values.
-/
module

public import proofs.«01_k».proof.Defs
public import proofs.«01_k».proof.Proof.Gen.Kernel
public import proofs.«01_k».proof.Proof.RegionFrame

@[expose] public section

set_option maxRecDepth 100000

noncomputable section

namespace Cert.KernelIdeal.Region

open Cert.KernelIdeal Cert.KernelIdeal.Gen
open Idealize.ShloMosaic Idealize.ShloMosaic.TcCoe Idealize.SL.Sem

/-- The frame claim of the idealized program's text at any values `F`. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- It holds at any values. -/
theorem frameAt (F : FTy → Type) [FloatOps F] : FrameAt F := fun m g _ => frame m g

/-- The compiled kernel's frame claim is that one at words. -/
theorem compiled_frame_eq : quiescent_Kernel (hKernel := Cert.Kernel.Gen.facts) = FrameAt Bits := by sl_kernel_rfl

/-- The compiled kernel's frame. -/
theorem compiled_frame : quiescent_Kernel (hKernel := Cert.Kernel.Gen.facts) := compiled_frame_eq ▸ frameAt Bits

end Cert.KernelIdeal.Region

end
-- ==== Proof.RegionBody.lean ====
/-
  What one grid point leaves in the result's buffer, first as the printed operations and then entry by entry at the ideal
  values.
-/
module

public import proofs.«01_k».proof.Proof.RegionFrame
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Region

open Cert.KernelIdeal.Gen
open Idealize.ShloMosaic Idealize.ShloMosaic.TcCoe Idealize.SL.Sem

section AnyValues

variable {F : FTy → Type} [FloatOps F]

/-- Two zero offsets are the zero offset on either axis. -/
theorem offsets_zero₂ : (![0, 0] : Fin 2 → Nat) = fun _ => 0 := funext fun a => by fin_cases a <;> rfl

/-- One zero offset is the zero offset on the one axis. -/
theorem offsets_zero₁ : (![0] : Fin 1 → Nat) = fun _ => 0 := funext fun a => by fin_cases a; rfl

/-- A later point adds the product of its two blocks to what the buffer held. -/
theorem out_later (c : Dev nD) (i : grid0.Coords) (a1 : Memref sig .tc .vmem S8x5120 .f32) (h1 : a1.IsWhole)
    (a2 : Memref sig .tc .vmem S5120x512 .f32) (h2 : a2.IsWhole) (a3 : Memref sig .tc .vmem S512 .f32) (h3 : a3.IsWhole)
    (a4 : Memref sig .tc .vmem S8x512 .f32) (h4 : a4.IsWhole) (hc : ¬cond0_0 i) (h : Vec F S8x5120 .f32)
    (w : Vec F S5120x512 .f32) (b : Vec F S512 .f32) (o : Vec F S8x512 .f32) :
    out0_B_3 c i a1 h1 a2 h2 a3 h3 a4 h4 hc h w b o = k0_pay2 o h w := by
  unfold out0_B_3
  rw [View.read_writes_eq_canon _ _ _ (cover0_B_3 c i a1 h1 a2 h2 a3 h3 a4 h4 hc h w b o)]
  unfold kernelRun0_B
  dsimp only
  rw [View.canon_unit_zero offsets_zero₂]
  simp only [View.readAt_eq_ld, h1.read_unread, h2.read_unread, h4.read_unread, View.ld_unit_zero (S := S8x5120) offsets_zero₂,
    View.ld_unit_zero (S := S5120x512) offsets_zero₂, View.ld_unit_zero (S := S8x512) offsets_zero₂]

/-- The first point stores the bias in every row and then adds the product of its two blocks. -/
theorem out_first (c : Dev nD) (i : grid0.Coords) (a1 : Memref sig .tc .vmem S8x5120 .f32) (h1 : a1.IsWhole)
    (a2 : Memref sig .tc .vmem S5120x512 .f32) (h2 : a2.IsWhole) (a3 : Memref sig .tc .vmem S512 .f32) (h3 : a3.IsWhole)
    (a4 : Memref sig .tc .vmem S8x512 .f32) (h4 : a4.IsWhole) (hc : cond0_0 i) (h : Vec F S8x5120 .f32)
    (w : Vec F S5120x512 .f32) (b : Vec F S512 .f32) :
    out0_A_3 c i a1 h1 a2 h2 a3 h3 a4 h4 hc h w b = k0_pay2 (k0_pay1 b) h w := by
  unfold out0_A_3
  rw [View.read_writes_eq_canon _ _ _ (cover0_A_3 c i a1 h1 a2 h2 a3 h3 a4 h4 hc h w b)]
  unfold kernelRun0_A
  dsimp only
  sl_unfold_words
  rw [View.canon_cons_unit_zero (S := S8x512) offsets_zero₂, View.readCov_unit_zero (S := S8x512) _ offsets_zero₂]
  simp only [View.readAt_eq_ld, h1.read_unread, h2.read_unread, h3.read_unread, View.ld_unit_zero (S := S8x5120) offsets_zero₂,
    View.ld_unit_zero (S := S5120x512) offsets_zero₂, View.ld_unit_zero (S := S512) offsets_zero₁]

end AnyValues

/-- Entry `(r, j)` of a point's update: what was there plus the inner product of the two blocks' row and column. -/
theorem update_apply (o : Vec Ideal S8x512 .f32) (h : Vec Ideal S8x5120 .f32) (w : Vec Ideal S5120x512 .f32) (r : Fin 8)
    (j : Fin 512) : k0_pay2 o h w (ix2 r j) = o (ix2 r j) + ∑ k : Fin 5120, h (ix2 r k) * w (ix2 k j) := by
  pointwise [k0_pay2]

/-- Entry `(r, j)` of the bias block is entry `j` of the bias. -/
theorem bias_apply (b : Vec Ideal S512 .f32) (r : Fin 8) (j : Fin 512) : k0_pay1 b (ix2 r j) = b (ix1 j) := by
  pointwise [k0_pay1]

end Cert.KernelIdeal.Region

end
-- ==== Proof.RegionValue.lean ====
/-
  What the result array of the region holds after the grid: the bias plus one product over all 640000 columns.
-/
module

public import proofs.«01_k».proof.Proof.RegionBody

@[expose] public section

set_option maxRecDepth 16384

noncomputable section

namespace Cert.KernelIdeal.Region

open Cert.KernelIdeal.Gen
open Idealize.ShloMosaic Idealize.ShloMosaic.TcCoe Idealize.SL.Sem

variable (m : (ℓ : Loc nD τ sig) → Buf (Elt Ideal) ℓ)

/-- Where the windows of the two factors lie at point `t`: columns `5120 t …` of the one, rows `5120 t …` of the other. -/
theorem factor_blocks : ∀ t : Fin cfg0.N, win0_0.index t = ![0, t.val] ∧ win0_1.index t = ![t.val, 0] ∧ win0_2.index t = ![0] := by
  decide +kernel

/-- The three arrays the region reads. -/
def leftArray (c : Dev nD) : Vec Ideal S8x640000 .f32 := V m c main_v1015
@[inherit_doc leftArray] def rightArray (c : Dev nD) : Vec Ideal S640000x512 .f32 := V m c main_arg6
@[inherit_doc leftArray] def biasArray (c : Dev nD) : Vec Ideal S512 .f32 := V m c main_arg7

/-- Their blocks at point `t`. -/
def leftBlock (c : Dev nD) (t : Fin cfg0.N) : Vec Ideal S8x5120 .f32 := iblk m c 0 t
@[inherit_doc leftBlock] def rightBlock (c : Dev nD) (t : Fin cfg0.N) : Vec Ideal S5120x512 .f32 := iblk m c 1 t
@[inherit_doc leftBlock] def biasBlock (c : Dev nD) (t : Fin cfg0.N) : Vec Ideal S512 .f32 := iblk m c 2 t

/-- The block of the left factor at point `t`. -/
theorem left_block (c : Dev nD) (t : Fin cfg0.N) (r : Fin 8) (k : Fin 5120) (p : Fin 640000) (hp : p.val = t.val * 5120 + k.val) :
    leftBlock m c t (ix2 r k) = leftArray m c (ix2 r p) := by
  have h := factor_blocks t
  unfold leftBlock leftArray
  blk_ext [iblk, h.1, hp]

/-- The block of the right factor at point `t`. -/
theorem right_block (c : Dev nD) (t : Fin cfg0.N) (k : Fin 5120) (j : Fin 512) (p : Fin 640000) (hp : p.val = t.val * 5120 + k.val) :
    rightBlock m c t (ix2 k j) = rightArray m c (ix2 p j) := by
  have h := factor_blocks t
  unfold rightBlock rightArray
  blk_ext [iblk, h.2.1, hp]

/-- The block of the bias is the bias at every point. -/
theorem bias_block (c : Dev nD) (t : Fin cfg0.N) (j : Fin 512) : biasBlock m c t (ix1 j) = biasArray m c (ix1 j) := by
  have h := factor_blocks t
  unfold biasBlock biasArray
  blk_ext [iblk, h.2.2]

/-- Point `t`'s share of entry `i`: row `i 0` of its left block by column `i 1` of its right block. -/
def share (c : Dev nD) (t : Fin cfg0.N) (i : S8x512.Idx) : EReal :=
  ∑ k : Fin 5120, leftBlock m c t (ix2 (i 0) k) * rightBlock m c t (ix2 k (i 1))

/-- The bias in every row. -/
def biasRows (c : Dev nD) (i : S8x512.Idx) : EReal := biasArray m c (ix1 (i 1))

/-- The last grid point. -/
def last : Fin cfg0.N := ⟨124, by rw [show cfg0.N = 125 from N_0]; decide⟩

/-- What the result's buffer holds after point `n`. -/
def held (c : Dev nD) (n : ℕ) (hn : n < cfg0.N) : S8x512.Idx → EReal := outsAt0 m c n hn

/-- After the first point the buffer holds the bias and that point's share. -/
theorem after_first (c : Dev nD) (t : Fin cfg0.N) (h : t.val % 125 = 0) (i : S8x512.Idx) :
    held m c t.val t.isLt i = biasRows m c i + share m c t i := by
  obtain ⟨r, j, rfl⟩ : ∃ (r : Fin 8) (j : Fin 512), i = ix2 r j := ⟨i 0, i 1, eq_ix2 i⟩
  have e : held m c t.val t.isLt = k0_pay2 (k0_pay1 (biasBlock m c t)) (leftBlock m c t) (rightBlock m c t) :=
    (outsAt0_A m c t h).trans (out_first ..)
  rw [e, update_apply, bias_apply, bias_block]
  rfl

/-- Every later point adds its share. -/
theorem after_later (c : Dev nD) (t : Fin cfg0.N) (h : ¬t.val % 125 = 0) (i : S8x512.Idx) :
    held m c t.val t.isLt i
      = held m c (t.val - 1) (Nat.lt_of_le_of_lt (Nat.sub_le _ _) t.isLt) i + share m c t i := by
  obtain ⟨r, j, rfl⟩ : ∃ (r : Fin 8) (j : Fin 512), i = ix2 r j := ⟨i 0, i 1, eq_ix2 i⟩
  have e : held m c t.val t.isLt = k0_pay2 (held m c (t.val - 1) (Nat.lt_of_le_of_lt (Nat.sub_le _ _) t.isLt))
      (leftBlock m c t) (rightBlock m c t) := (outsAt0_B m c t h).trans (out_later ..)
  rw [e, update_apply]
  rfl

/-- After the last point the buffer holds the bias and the sum of all shares. -/
theorem after_last (c : Dev nD) (i : S8x512.Idx) :
    held m c last.val last.isLt i = biasRows m c i + ∑ t : Fin cfg0.N, share m c t i :=
  Pipeline.eq_sum_fin_of_reset_step_apply_last (held m c) 125 (biasRows m c) (share m c) (after_first m c)
    (after_later m c) (le_of_eq N_0) last ((show last.val + 1 = 125 from rfl).trans N_0.symm) i

/-- Entry `i` of the bias plus the product of the two arrays the region reads. -/
def product (c : Dev nD) (i : S8x512.Idx) : EReal :=
  biasRows m c i + ∑ p : Fin 640000, leftArray m c (ix2 (i 0) p) * rightArray m c (ix2 p (i 1))

/-- The shares of the 125 points, each over 5120 columns, are the sum over all 640000 columns. -/
theorem shares_sum (c : Dev nD) (i : S8x512.Idx) : biasRows m c i + ∑ t : Fin cfg0.N, share m c t i = product m c i := by
  have hN : cfg0.N * 5120 = 640000 := by rw [show cfg0.N = 125 from N_0]
  unfold product
  rw [Fin.sum_univ_tiles cfg0.N 5120 hN]
  refine congrArg (biasRows m c i + ·) (Finset.sum_congr rfl fun t _ => Finset.sum_congr rfl fun k _ => ?_)
  exact congrArg₂ (· * ·) (left_block m c t _ k _ rfl) (right_block m c t k _ _ rfl)

/-- The result array ends at the bias plus the whole product. -/
theorem region_value (c : Dev nD) : (dats m 0 c).arrAt 3 cfg0.N = product m c := by
  refine (dats m 0 c).arrAt_eq_of_after_last 3 last (by decide +kernel) _ fun j => ?_
  blk_simp
  rw [after0_3]
  exact (after_last m c _).trans (shares_sum m c _)

end Cert.KernelIdeal.Region

end
-- ==== Proof.HostSim.lean ====
/-
  Two straight lines of host operations, over two different buffer signatures, that compute the same arrays.

  Two programs may name their tensor values alike: the `k`-th buffer of the one holds what the `k`-th buffer of the other
  holds. `Agree n V W` says that this is so for the buffers numbered below `n`. An operation that writes buffer `n` from
  buffers below `n` by the same function in both programs takes `Agree n` to `Agree (n + 1)`; `Sim n m` says this of two
  whole lists of operations, and the lemmas below build it one operation at a time. Nothing here knows which arrays the
  programs compute.
-/
module

public import Idealize.ShloMosaic.Lib.StableHlo.Run

@[expose] public section

noncomputable section

namespace Cert.HostSim

open Idealize.ShloMosaic Idealize.ShloMosaic.StableHlo

variable {τA τB : Topo} {A B : RefSig} {Val : EltTy → Type}

/-- `a` and `b` are the `k`-th device-memory buffers of their two signatures. -/
structure Paired (a : Ref A .tc) (b : Ref B .tc) (k : ℕ) : Prop where
  left_space : a.space = .hbm
  right_space : b.space = .hbm
  left_idx : a.idx.val = k
  right_idx : b.idx.val = k

/-- The buffers numbered below `n` have the same type and hold the same contents in `V` and in `W`. -/
def Agree (n : ℕ) (V : Valuation τA A Val) (W : Valuation τB B Val) : Prop :=
  ∀ (a : Ref A .tc) (b : Ref B .tc) (k : ℕ), Paired a b k → k < n →
    a.ty = b.ty ∧ HEq (V (Proc.devRef .tc a)) (W (Proc.devRef .tc b))

/-- Contents of the same number and of the same type are equal. -/
theorem Agree.eq {n k : ℕ} {V : Valuation τA A Val} {W : Valuation τB B Val} (h : Agree n V W) {a : Ref A .tc}
    {b : Ref B .tc} (hp : Paired a b k) (hk : k < n) : HEq (V (Proc.devRef .tc a)) (W (Proc.devRef .tc b)) :=
  (h a b k hp hk).2

/-- Two buffers of different numbers are different buffers. -/
theorem Paired.left_ne {a y : Ref A .tc} {b y' : Ref B .tc} {k n : ℕ} (h : Paired a b k) (hy : Paired y y' n) (hk : k < n) :
    a ≠ y := by
  rintro rfl; have := h.left_idx.symm.trans hy.left_idx; omega

/-- The same, on the other side. -/
theorem Paired.right_ne {a y : Ref A .tc} {b y' : Ref B .tc} {k n : ℕ} (h : Paired a b k) (hy : Paired y y' n) (hk : k < n) :
    b ≠ y' := by
  rintro rfl; have := h.right_idx.symm.trans hy.right_idx; omega

/-- A buffer is known by its memory and its number. -/
theorem ref_ext {S : RefSig} {a y : Ref S .tc} (hs : a.space = y.space) (hi : a.idx.val = y.idx.val) : a = y := by
  obtain ⟨s, i, p⟩ := a
  obtain ⟨s', i', p'⟩ := y
  dsimp only at hs hi
  subst hs
  obtain rfl := Fin.ext hi
  rfl

/-- An operation pair that writes buffer `n` of either side, with equal contents, extends the agreement by that buffer. -/
theorem Agree.step {n : ℕ} {V : Valuation τA A Val} {W : Valuation τB B Val} (h : Agree n V W) {y : Ref A .tc} {y' : Ref B .tc}
    (hy : Paired y y' n) (hty : y.ty = y'.ty) (oA : HloOp τA A Val) (oB : HloOp τB B Val)
    (hA : oA.writes = {Proc.devRef .tc y}) (hB : oB.writes = {Proc.devRef .tc y'})
    (hv : HEq (oA.result V (Proc.devRef .tc y)) (oB.result W (Proc.devRef .tc y'))) :
    Agree (n + 1) (oA.result V) (oB.result W) := by
  intro a b k hp hk
  rcases Nat.lt_succ_iff_lt_or_eq.mp hk with hk | rfl
  · rw [oA.result_of_not_mem V (by rw [hA, Finset.mem_singleton]; exact devRef_ne_of_ne (hp.left_ne hy hk)),
      oB.result_of_not_mem W (by rw [hB, Finset.mem_singleton]; exact devRef_ne_of_ne (hp.right_ne hy hk))]
    exact h a b k hp hk
  · obtain rfl := ref_ext (hp.left_space.trans hy.left_space.symm) (hp.left_idx.trans hy.left_idx.symm)
    obtain rfl := ref_ext (hp.right_space.trans hy.right_space.symm) (hp.right_idx.trans hy.right_idx.symm)
    exact ⟨hty, hv⟩

/-- Run from agreeing contents below `n`, the two lists leave agreeing contents below `m`. -/
def Sim (n m : ℕ) (lA : List (HloOp τA A Val)) (lB : List (HloOp τB B Val)) : Prop :=
  ∀ V W, Agree n V W → Agree m (after lA V) (after lB W)

/-- No operation: nothing changes. -/
theorem Sim.nil (n : ℕ) : Sim n n ([] : List (HloOp τA A Val)) ([] : List (HloOp τB B Val)) := fun _ _ h => h

/-- The contents after two lines are those the second leaves from what the first left. -/
theorem after_two {S : RefSig} {τ : Topo} (l l' : List (HloOp τ S Val)) (V : Valuation τ S Val) :
    after (l ++ l') V = after l' (after l V) := by
  induction l generalizing V with
  | nil => rfl
  | cons o l ih => exact ih _

/-- One line after another. -/
theorem Sim.append {n m l : ℕ} {lA lA' : List (HloOp τA A Val)} {lB lB' : List (HloOp τB B Val)} (h : Sim n m lA lB)
    (h' : Sim m l lA' lB') : Sim n l (lA ++ lA') (lB ++ lB') := fun V W hVW => by
  rw [after_two, after_two]; exact h' _ _ (h V W hVW)

/-- One operation pair, then the rest. -/
theorem Sim.cons {n m : ℕ} {oA : HloOp τA A Val} {oB : HloOp τB B Val} {lA : List (HloOp τA A Val)}
    {lB : List (HloOp τB B Val)} (h : ∀ V W, Agree n V W → Agree (n + 1) (oA.result V) (oB.result W)) (h' : Sim (n + 1) m lA lB) :
    Sim n m (oA :: lA) (oB :: lB) := fun V W hVW => h' _ _ (h V W hVW)

/-- Equal functions of one array, at equal arrays. -/
theorem heq_app₁ {X X' Y Y' : BufTy} (hX : X = X') (hY : Y = Y') {f : X.Contents Val → Y.Contents Val}
    {f' : X'.Contents Val → Y'.Contents Val} (hf : HEq f f') {v : X.Contents Val} {v' : X'.Contents Val} (hv : HEq v v') :
    HEq (f v) (f' v') := by
  subst hX hY; cases hf; cases hv; rfl

/-- Equal functions of two arrays, at equal arrays. -/
theorem heq_app₂ {X X' Z Z' Y Y' : BufTy} (hX : X = X') (hZ : Z = Z') (hY : Y = Y')
    {f : X.Contents Val → Z.Contents Val → Y.Contents Val} {f' : X'.Contents Val → Z'.Contents Val → Y'.Contents Val}
    (hf : HEq f f') {v : X.Contents Val} {v' : X'.Contents Val} (hv : HEq v v') {w : Z.Contents Val} {w' : Z'.Contents Val}
    (hw : HEq w w') : HEq (f v w) (f' v' w') := by
  subst hX hZ hY; cases hf; cases hv; cases hw; rfl

/-- Equal functions of three arrays, at equal arrays. -/
theorem heq_app₃ {X X' Z Z' U U' Y Y' : BufTy} (hX : X = X') (hZ : Z = Z') (hU : U = U') (hY : Y = Y')
    {f : X.Contents Val → Z.Contents Val → U.Contents Val → Y.Contents Val}
    {f' : X'.Contents Val → Z'.Contents Val → U'.Contents Val → Y'.Contents Val}
    (hf : HEq f f') {v : X.Contents Val} {v' : X'.Contents Val} (hv : HEq v v') {w : Z.Contents Val} {w' : Z'.Contents Val}
    (hw : HEq w w') {u : U.Contents Val} {u' : U'.Contents Val} (hu : HEq u u') : HEq (f v w u) (f' v' w' u') := by
  subst hX hZ hU hY; cases hf; cases hv; cases hw; cases hu; rfl

/-- A reshape of equal arrays. -/
theorem heq_reshape {X X' Y Y' : BufTy} (hX : X = X') (hY : Y = Y') (he : X.elt = Y.elt) (he' : X'.elt = Y'.elt)
    (hn : X.shape.ShapeCasts Y.shape) (hn' : X'.shape.ShapeCasts Y'.shape) {v : X.Contents Val} {v' : X'.Contents Val}
    (hv : HEq v v') :
    HEq (fun i => he ▸ shapeCast Y.shape v hn i : Y.Contents Val) (fun i => he' ▸ shapeCast Y'.shape v' hn' i : Y'.Contents Val) := by
  subst hX hY; cases hv; rfl

variable {n m : ℕ} {lA : List (HloOp τA A Val)} {lB : List (HloOp τB B Val)}

/-- A constant written on either side. -/
theorem Sim.nullary {y : Ref A .tc} {y' : Ref B .tc} {v : y.ty.Contents Val} {v' : y'.ty.Contents Val} {e e'}
    (hy : Paired y y' n) (hty : y.ty = y'.ty) (hv : HEq v v') (h : Sim (n + 1) m lA lB) :
    Sim n m (nullary y v e :: lA) (nullary y' v' e' :: lB) :=
  Sim.cons (fun V W hVW => hVW.step hy hty _ _ (nullary_writes ..) (nullary_writes ..) (by
    rw [nullary_result, nullary_result]; exact hv)) h

/-- One function of one earlier array. -/
theorem Sim.unary {x y : Ref A .tc} {x' y' : Ref B .tc} {f : x.ty.Contents Val → y.ty.Contents Val}
    {f' : x'.ty.Contents Val → y'.ty.Contents Val} {d e d' e'} {k : ℕ} (hy : Paired y y' n) (hty : y.ty = y'.ty)
    (hx : Paired x x' k) (hk : k < n) (hf : HEq f f') (h : Sim (n + 1) m lA lB) :
    Sim n m (unary x y f d e :: lA) (unary x' y' f' d' e' :: lB) :=
  Sim.cons (fun V W hVW => hVW.step hy hty _ _ (unary_writes ..) (unary_writes ..) (by
    rw [unary_result, unary_result]; exact heq_app₁ (hVW _ _ k hx hk).1 hty hf (hVW _ _ k hx hk).2)) h

/-- A reshape of one earlier array. -/
theorem Sim.reshape {x y : Ref A .tc} {x' y' : Ref B .tc} {he he' hn hn' d e d' e'} {k : ℕ} (hy : Paired y y' n)
    (hty : y.ty = y'.ty) (hx : Paired x x' k) (hk : k < n) (h : Sim (n + 1) m lA lB) :
    Sim n m (reshape x y he hn d e :: lA) (reshape x' y' he' hn' d' e' :: lB) :=
  Sim.cons (fun V W hVW => hVW.step hy hty _ _ (reshape_writes ..) (reshape_writes ..) (by
    rw [reshape_result, reshape_result]; exact heq_reshape (hVW _ _ k hx hk).1 hty he he' hn hn' (hVW _ _ k hx hk).2)) h

/-- One function of two earlier arrays. -/
theorem Sim.binary {a b y : Ref A .tc} {a' b' y' : Ref B .tc} {f : a.ty.Contents Val → b.ty.Contents Val → y.ty.Contents Val}
    {f' : a'.ty.Contents Val → b'.ty.Contents Val → y'.ty.Contents Val} {c d e c' d' e'} {j k : ℕ} (hy : Paired y y' n)
    (hty : y.ty = y'.ty) (ha : Paired a a' j) (hb : Paired b b' k) (hj : j < n) (hk : k < n) (hf : HEq f f')
    (h : Sim (n + 1) m lA lB) :
    Sim n m (binary a b y f c d e :: lA) (binary a' b' y' f' c' d' e' :: lB) :=
  Sim.cons (fun V W hVW => hVW.step hy hty _ _ (binary_writes ..) (binary_writes ..) (by
    rw [binary_result, binary_result]
    exact heq_app₂ (hVW _ _ j ha hj).1 (hVW _ _ k hb hk).1 hty hf (hVW _ _ j ha hj).2 (hVW _ _ k hb hk).2)) h

/-- One function of three earlier arrays. -/
theorem Sim.ternary {c a b y : Ref A .tc} {c' a' b' y' : Ref B .tc}
    {f : c.ty.Contents Val → a.ty.Contents Val → b.ty.Contents Val → y.ty.Contents Val}
    {f' : c'.ty.Contents Val → a'.ty.Contents Val → b'.ty.Contents Val → y'.ty.Contents Val} {g d e i g' d' e' i'} {l j k : ℕ}
    (hy : Paired y y' n) (hty : y.ty = y'.ty) (hc : Paired c c' l) (ha : Paired a a' j) (hb : Paired b b' k)
    (hl : l < n) (hj : j < n) (hk : k < n) (hf : HEq f f') (h : Sim (n + 1) m lA lB) :
    Sim n m (ternary c a b y f g d e i :: lA) (ternary c' a' b' y' f' g' d' e' i' :: lB) :=
  Sim.cons (fun V W hVW => hVW.step hy hty _ _ (ternary_writes ..) (ternary_writes ..) (by
    rw [ternary_result, ternary_result]
    exact heq_app₃ (hVW _ _ l hc hl).1 (hVW _ _ j ha hj).1 (hVW _ _ k hb hk).1 hty hf (hVW _ _ l hc hl).2 (hVW _ _ j ha hj).2
      (hVW _ _ k hb hk).2)) h

end Cert.HostSim

end
-- ==== Proof.HostWalkA.lean ====
/-
  The host lines before the region and the reference's lines, window 0 to window 4: operation by operation they write the
  same buffers with the same functions of the same earlier buffers.
-/
module

public import proofs.«01_k».proof.Proof.Gen.ReferenceIdeal.Run
public import proofs.«01_k».proof.Proof.Gen.KernelIdeal.Launch
public import proofs.«01_k».proof.Proof.HostSim

@[expose] public section

set_option maxRecDepth 16384

noncomputable section

namespace Cert.HostWalk

open Idealize.ShloMosaic Idealize.ShloMosaic.StableHlo Cert.HostSim
open Cert.KernelIdeal.Gen Cert.ReferenceIdeal.Value

variable {F : FTy → Type} [FloatOps F]

set_option maxHeartbeats 20000000 in
/-- Windows 0 to 4: contents that agree below buffer 10 agree below buffer 312 once both sides have run. -/
theorem walkA :
    Sim 10 72 (main_part0_ops0 (F := F) ++ (main_part0_ops1 ++ main_part0_ops2)) (ops_part0 (F := F))
    ∧ Sim 72 132 (main_part1_ops0 (F := F)) (ops_part1 (F := F))
    ∧ Sim 132 192 (main_part2_ops0 (F := F)) (ops_part2 (F := F))
    ∧ Sim 192 252 (main_part3_ops0 (F := F)) (ops_part3 (F := F))
    ∧ Sim 252 312 (main_part4_ops0 (F := F)) (ops_part4 (F := F)) := by
  refine ⟨?_, ?_, ?_, ?_, ?_⟩
  all_goals try dsimp only [main_part0_ops0, main_part0_ops1, main_part0_ops2, ops_part0, ops_part0_0, ops_part0_1, ops_part0_2, List.cons_append, List.nil_append]
  all_goals
    repeat first
      | with_reducible refine Sim.unary ⟨rfl, rfl, rfl, rfl⟩ rfl ⟨rfl, rfl, rfl, rfl⟩ (by decide) HEq.rfl ?_
      | with_reducible refine Sim.binary ⟨rfl, rfl, rfl, rfl⟩ rfl ⟨rfl, rfl, rfl, rfl⟩ ⟨rfl, rfl, rfl, rfl⟩ (by decide) (by decide) HEq.rfl ?_
      | with_reducible refine Sim.nullary ⟨rfl, rfl, rfl, rfl⟩ rfl HEq.rfl ?_
      | with_reducible refine Sim.reshape ⟨rfl, rfl, rfl, rfl⟩ rfl ⟨rfl, rfl, rfl, rfl⟩ (by decide) ?_
      | with_reducible refine Sim.ternary ⟨rfl, rfl, rfl, rfl⟩ rfl ⟨rfl, rfl, rfl, rfl⟩ ⟨rfl, rfl, rfl, rfl⟩ ⟨rfl, rfl, rfl, rfl⟩ (by decide) (by decide) (by decide) HEq.rfl ?_
      | exact Sim.nil _

end Cert.HostWalk

end
-- ==== Proof.HostWalkB.lean ====
/-
  The host lines before the region and the reference's lines, window 5 to window 9: operation by operation they write the
  same buffers with the same functions of the same earlier buffers.
-/
module

public import proofs.«01_k».proof.Proof.Gen.ReferenceIdeal.Run
public import proofs.«01_k».proof.Proof.Gen.KernelIdeal.Launch
public import proofs.«01_k».proof.Proof.HostSim

@[expose] public section

set_option maxRecDepth 16384

noncomputable section

namespace Cert.HostWalk

open Idealize.ShloMosaic Idealize.ShloMosaic.StableHlo Cert.HostSim
open Cert.KernelIdeal.Gen Cert.ReferenceIdeal.Value

variable {F : FTy → Type} [FloatOps F]

set_option maxHeartbeats 20000000 in
/-- Windows 5 to 9: contents that agree below buffer 312 agree below buffer 612 once both sides have run. -/
theorem walkB :
    Sim 312 372 (main_part5_ops0 (F := F)) (ops_part5 (F := F))
    ∧ Sim 372 432 (main_part6_ops0 (F := F)) (ops_part6 (F := F))
    ∧ Sim 432 492 (main_part7_ops0 (F := F)) (ops_part7 (F := F))
    ∧ Sim 492 552 (main_part8_ops0 (F := F)) (ops_part8 (F := F))
    ∧ Sim 552 612 (main_part9_ops0 (F := F)) (ops_part9 (F := F)) := by
  refine ⟨?_, ?_, ?_, ?_, ?_⟩
  all_goals
    repeat first
      | with_reducible refine Sim.unary ⟨rfl, rfl, rfl, rfl⟩ rfl ⟨rfl, rfl, rfl, rfl⟩ (by decide) HEq.rfl ?_
      | with_reducible refine Sim.binary ⟨rfl, rfl, rfl, rfl⟩ rfl ⟨rfl, rfl, rfl, rfl⟩ ⟨rfl, rfl, rfl, rfl⟩ (by decide) (by decide) HEq.rfl ?_
      | with_reducible refine Sim.nullary ⟨rfl, rfl, rfl, rfl⟩ rfl HEq.rfl ?_
      | with_reducible refine Sim.reshape ⟨rfl, rfl, rfl, rfl⟩ rfl ⟨rfl, rfl, rfl, rfl⟩ (by decide) ?_
      | with_reducible refine Sim.ternary ⟨rfl, rfl, rfl, rfl⟩ rfl ⟨rfl, rfl, rfl, rfl⟩ ⟨rfl, rfl, rfl, rfl⟩ ⟨rfl, rfl, rfl, rfl⟩ (by decide) (by decide) (by decide) HEq.rfl ?_
      | exact Sim.nil _

end Cert.HostWalk

end
-- ==== Proof.HostWalkC.lean ====
/-
  The host lines before the region and the reference's lines, window 10 to window 14: operation by operation they write the
  same buffers with the same functions of the same earlier buffers.
-/
module

public import proofs.«01_k».proof.Proof.Gen.ReferenceIdeal.Run
public import proofs.«01_k».proof.Proof.Gen.KernelIdeal.Launch
public import proofs.«01_k».proof.Proof.HostSim

@[expose] public section

set_option maxRecDepth 16384

noncomputable section

namespace Cert.HostWalk

open Idealize.ShloMosaic Idealize.ShloMosaic.StableHlo Cert.HostSim
open Cert.KernelIdeal.Gen Cert.ReferenceIdeal.Value

variable {F : FTy → Type} [FloatOps F]

set_option maxHeartbeats 20000000 in
/-- Windows 10 to 14: contents that agree below buffer 612 agree below buffer 914 once both sides have run. -/
theorem walkC :
    Sim 612 674 (main_part10_ops0 (F := F) ++ (main_part10_ops1 ++ main_part10_ops2)) (ops_part10 (F := F))
    ∧ Sim 674 734 (main_part11_ops0 (F := F)) (ops_part11 (F := F))
    ∧ Sim 734 794 (main_part12_ops0 (F := F)) (ops_part12 (F := F))
    ∧ Sim 794 854 (main_part13_ops0 (F := F)) (ops_part13 (F := F))
    ∧ Sim 854 914 (main_part14_ops0 (F := F)) (ops_part14 (F := F)) := by
  refine ⟨?_, ?_, ?_, ?_, ?_⟩
  all_goals try dsimp only [main_part10_ops0, main_part10_ops1, main_part10_ops2, ops_part10, ops_part10_0, ops_part10_1, ops_part10_2, List.cons_append, List.nil_append]
  all_goals
    repeat first
      | with_reducible refine Sim.unary ⟨rfl, rfl, rfl, rfl⟩ rfl ⟨rfl, rfl, rfl, rfl⟩ (by decide) HEq.rfl ?_
      | with_reducible refine Sim.binary ⟨rfl, rfl, rfl, rfl⟩ rfl ⟨rfl, rfl, rfl, rfl⟩ ⟨rfl, rfl, rfl, rfl⟩ (by decide) (by decide) HEq.rfl ?_
      | with_reducible refine Sim.nullary ⟨rfl, rfl, rfl, rfl⟩ rfl HEq.rfl ?_
      | with_reducible refine Sim.reshape ⟨rfl, rfl, rfl, rfl⟩ rfl ⟨rfl, rfl, rfl, rfl⟩ (by decide) ?_
      | with_reducible refine Sim.ternary ⟨rfl, rfl, rfl, rfl⟩ rfl ⟨rfl, rfl, rfl, rfl⟩ ⟨rfl, rfl, rfl, rfl⟩ ⟨rfl, rfl, rfl, rfl⟩ (by decide) (by decide) (by decide) HEq.rfl ?_
      | exact Sim.nil _

end Cert.HostWalk

end
-- ==== Proof.HostWalkD.lean ====
/-
  The host lines before the region and the reference's lines, window 15 to window 20: operation by operation they write the
  same buffers with the same functions of the same earlier buffers.
-/
module

public import proofs.«01_k».proof.Proof.Gen.ReferenceIdeal.Run
public import proofs.«01_k».proof.Proof.Gen.KernelIdeal.Launch
public import proofs.«01_k».proof.Proof.HostSim

@[expose] public section

set_option maxRecDepth 16384

noncomputable section

namespace Cert.HostWalk

open Idealize.ShloMosaic Idealize.ShloMosaic.StableHlo Cert.HostSim
open Cert.KernelIdeal.Gen Cert.ReferenceIdeal.Value

variable {F : FTy → Type} [FloatOps F]

set_option maxHeartbeats 20000000 in
/-- Windows 15 to 20: contents that agree below buffer 914 agree below buffer 1233 once both sides have run. -/
theorem walkD :
    Sim 914 974 (main_part15_ops0 (F := F)) (ops_part15 (F := F))
    ∧ Sim 974 1034 (main_part16_ops0 (F := F)) (ops_part16 (F := F))
    ∧ Sim 1034 1094 (main_part17_ops0 (F := F)) (ops_part17 (F := F))
    ∧ Sim 1094 1154 (main_part18_ops0 (F := F)) (ops_part18 (F := F))
    ∧ Sim 1154 1214 (main_part19_ops0 (F := F)) (ops_part19 (F := F))
    ∧ Sim 1214 1233 (main_part20_ops0 (F := F) ++ (main_part20_ops1 ++ main_part20_ops2)) ((ops_part20 (F := F)).take 19) := by
  refine ⟨?_, ?_, ?_, ?_, ?_, ?_⟩
  all_goals try dsimp only [main_part20_ops0, main_part20_ops1, main_part20_ops2, ops_part20, List.take_succ_cons, List.take_zero, List.cons_append, List.nil_append]
  all_goals
    repeat first
      | with_reducible refine Sim.unary ⟨rfl, rfl, rfl, rfl⟩ rfl ⟨rfl, rfl, rfl, rfl⟩ (by decide) HEq.rfl ?_
      | with_reducible refine Sim.binary ⟨rfl, rfl, rfl, rfl⟩ rfl ⟨rfl, rfl, rfl, rfl⟩ ⟨rfl, rfl, rfl, rfl⟩ (by decide) (by decide) HEq.rfl ?_
      | with_reducible refine Sim.nullary ⟨rfl, rfl, rfl, rfl⟩ rfl HEq.rfl ?_
      | with_reducible refine Sim.reshape ⟨rfl, rfl, rfl, rfl⟩ rfl ⟨rfl, rfl, rfl, rfl⟩ (by decide) ?_
      | with_reducible refine Sim.ternary ⟨rfl, rfl, rfl, rfl⟩ rfl ⟨rfl, rfl, rfl, rfl⟩ ⟨rfl, rfl, rfl, rfl⟩ ⟨rfl, rfl, rfl, rfl⟩ (by decide) (by decide) (by decide) HEq.rfl ?_
      | exact Sim.nil _

end Cert.HostWalk

end
-- ==== Proof.HostPrefix.lean ====
/-
  The lines before the region and the reference's lines up to the same array, as a whole: all 1223 of them, window after
  window.
-/
module

public import proofs.«01_k».proof.Proof.HostWalkA
public import proofs.«01_k».proof.Proof.HostWalkB
public import proofs.«01_k».proof.Proof.HostWalkC
public import proofs.«01_k».proof.Proof.HostWalkD
public import proofs.«01_k».proof.Proof.Entry

@[expose] public section

set_option maxRecDepth 16384

noncomputable section

namespace Cert.HostWalk

open Idealize.ShloMosaic Idealize.ShloMosaic.StableHlo Cert.HostSim
open Cert.KernelIdeal.Gen Cert.ReferenceIdeal.Value

variable {F : FTy → Type} [FloatOps F]

/-- The reference's lines up to the array the region would read. -/
abbrev referencePrefix : List (HloOp Cert.ReferenceIdeal.τ Cert.ReferenceIdeal.sig (Elt F)) :=
  ops_part0 ++ (ops_part1 ++ (ops_part2 ++ (ops_part3 ++ (ops_part4 ++ (ops_part5 ++ (ops_part6 ++ (ops_part7 ++ (ops_part8
    ++ (ops_part9 ++ (ops_part10 ++ (ops_part11 ++ (ops_part12 ++ (ops_part13 ++ (ops_part14 ++ (ops_part15 ++ (ops_part16
    ++ (ops_part17 ++ (ops_part18 ++ (ops_part19 ++ ops_part20.take 19)))))))))))))))))))

/-- The reference's lines after it. -/
abbrev referenceTail : List (HloOp Cert.ReferenceIdeal.τ Cert.ReferenceIdeal.sig (Elt F)) := ops_part20.drop 19

/-- The reference's lines are those two. -/
theorem reference_split : (ops : List (HloOp Cert.ReferenceIdeal.τ Cert.ReferenceIdeal.sig (Elt F)))
    = referencePrefix ++ referenceTail := by
  unfold ops
  simp only [List.append_assoc, List.take_append_drop]

/-- The lines before the region, grouped as the reference's are. -/
abbrev windows : List (HloOp Cert.KernelIdeal.τ Cert.KernelIdeal.sig (Elt F)) :=
  (main_part0_ops0 ++ (main_part0_ops1 ++ main_part0_ops2)) ++ (main_part1_ops0 ++ (main_part2_ops0 ++ (main_part3_ops0
    ++ (main_part4_ops0 ++ (main_part5_ops0 ++ (main_part6_ops0 ++ (main_part7_ops0 ++ (main_part8_ops0 ++ (main_part9_ops0
    ++ ((main_part10_ops0 ++ (main_part10_ops1 ++ main_part10_ops2)) ++ (main_part11_ops0 ++ (main_part12_ops0
    ++ (main_part13_ops0 ++ (main_part14_ops0 ++ (main_part15_ops0 ++ (main_part16_ops0 ++ (main_part17_ops0
    ++ (main_part18_ops0 ++ (main_part19_ops0 ++ (main_part20_ops0 ++ (main_part20_ops1 ++ main_part20_ops2)))))))))))))))))))))

/-- They are the same lines. -/
theorem prefix_windows : Cert.KernelIdeal.Region.prefixOps (F := F) = windows := by chain_rfl

/-- Contents that agree on the ten arguments agree on every array up to the one the region reads. -/
theorem prefix_sim : Sim 10 1233 (Cert.KernelIdeal.Region.prefixOps (F := F)) (referencePrefix (F := F)) := by
  rw [prefix_windows]
  obtain ⟨a0, a1, a2, a3, a4⟩ := walkA (F := F)
  obtain ⟨b0, b1, b2, b3, b4⟩ := walkB (F := F)
  obtain ⟨c0, c1, c2, c3, c4⟩ := walkC (F := F)
  obtain ⟨d0, d1, d2, d3, d4, d5⟩ := walkD (F := F)
  exact a0.append (a1.append (a2.append (a3.append (a4.append (b0.append (b1.append (b2.append (b3.append (b4.append
    (c0.append (c1.append (c2.append (c3.append (c4.append (d0.append (d1.append (d2.append (d3.append
    (d4.append d5)))))))))))))))))))

end Cert.HostWalk

end
-- ==== Proof.Head.lean ====
/-
  The lines after the region: the second dense layer and the logarithm of the softmax of each row, as one function of the
  first dense layer's result.
-/
module

public import proofs.«01_k».proof.Proof.RegionFrame
public import Idealize.ShloMosaic.Lib.StableHlo.Run

@[expose] public section

set_option maxRecDepth 16384

noncomputable section

namespace Cert.KernelIdeal.Region

open Cert.KernelIdeal.Gen
open Idealize.ShloMosaic Idealize.ShloMosaic.TcCoe Idealize.SL.Sem Idealize.ShloMosaic.StableHlo

variable {F : FTy → Type} [FloatOps F]

/-- The second dense layer: `x · w` plus the bias in every row. -/
def logits (x : Vec F S8x512 .f32) (w : Vec F S512x6 .f32) (b : Vec F S6 .f32) : FVec F S8x6 .f32 :=
  addf (Host.dotGeneral dot_S8x512_S512x6_S8x6_1_0_0_1_n_n none x w)
    (broadcastInDim S8x6 ![0, 1] bcast_S1x6_S8x6_0_1 (broadcastInDim S1x6 ![1] bcast_S6_S1x6_1 b))

/-- Each row less its largest entry. -/
def centred (z : FVec F S8x6 .f32) : FVec F S8x6 .f32 :=
  subf z (broadcastInDim S8x6 ![0, 1] bcast_S8x1_S8x6_0_1 (broadcastInDim S8x1 ![0] bcast_S8_S8x1_0
    (maximumf (broadcastInDim S8 ![] bcast_S_S8 (constant S_ .f32 0xFF800000#32))
      (Host.reduce FloatOps.maximumf z (constant S_ .f32 0xFF800000#32) reducesTo_S8x6_S8_d1 h_S_))))

/-- The centred row less the logarithm of the sum of its exponentials. -/
def logSoftmax (z : FVec F S8x6 .f32) : FVec F S8x6 .f32 :=
  subf (centred z) (broadcastInDim S8x6 ![0, 1] bcast_S8x1_S8x6_0_1 (Host.log (broadcastInDim S8x1 ![0] bcast_S8_S8x1_0
    (Host.reduceAdd (Host.exp (centred z)) (constant S_ .f32 0x00000000#32) reducesTo_S8x6_S8_d1 h_S_))))

set_option maxHeartbeats 4000000 in
/-- The lines after the region leave in the result that function of the region's result and the two last arguments. -/
theorem tail_value (W : Valuation τ sig (Elt F)) :
    after (List.flatten [hostOps1, hostOps1_1]) W (Proc.devRef .tc main_v1021)
      = logSoftmax (logits (W (Proc.devRef .tc main_v1016)) (W (Proc.devRef .tc main_arg8)) (W (Proc.devRef .tc main_arg9))) := by
  unfold logSoftmax centred logits
  simp only [hostOps1, hostOps1_1, TRef.binary, TRef.nullary, TRef.unary, TRef.toBuf, TRef.ofBuf, cast_eq, List.flatten_cons,
    List.flatten_nil, List.append_nil, List.cons_append, List.nil_append]
  after_results

variable (m : (ℓ : Loc nD τ sig) → Buf (Elt F) ℓ) (ρ : Dev nD → PrngReg)

/-- What the program leaves in its result on device `c`. -/
def result (c : Dev nD) : Buf (Elt F) ((c.tc : Thread nD τ).loc main_v1021) :=
  logSoftmax (logits ((dats m 0 c).arrAt 3 cfg0.N) (m ((c.tc : Thread nD τ).loc main_arg8)) (m ((c.tc : Thread nD τ).loc main_arg9)))

/-- The result's buffer after the lines after the region. -/
theorem tail_result (c : Dev nD) :
    Pipeline.afterTail₀ cfgs (dats m) 0 (V0 m) [hostOps1, hostOps1_1] c main_v1021 = result m c := by
  unfold Pipeline.afterTail₀ result
  rw [tail_value]
  have h8 := (Pipeline.withArrays_of_ne spec0 c (V0 m c) (fun w => (dats m 0 c).arrAt w cfg0.N) main_arg8
    (by exact (by decide : ∀ w, Pipeline.arrRef spec0 w ≠ main_arg8))).trans (V_arg m c main_arg8 (by decide))
  have h9 := (Pipeline.withArrays_of_ne spec0 c (V0 m c) (fun w => (dats m 0 c).arrAt w cfg0.N) main_arg9
    (by exact (by decide : ∀ w, Pipeline.arrRef spec0 w ≠ main_arg9))).trans (V_arg m c main_arg9 (by decide))
  have ho := Pipeline.withArrays_arr spec0 launch0.win.arr_inj c (V0 m c) (fun w => (dats m 0 c).arrAt w cfg0.N) 3
  exact congrArg logSoftmax (congr (congr (congrArg logits ho) h8) h9)

/-- Every run ends with that result. -/
theorem run_value : θ_run defs (onTc (τ := τ) (main (F := F))) ⟨m, fun _ => 0, ρ⟩ (fun r => ∀ c : Dev nD,
    r.2.mem ((c.tc : Thread nD τ).loc main_v1021) = result m c) :=
  (θ_run defs _ _).mono (fun _ h c => ((h c).2 main_v1021 (Pipeline.mem_restRefs_of main_v1021 (by decide) (by decide))).trans
    (tail_result m c)) (run_main m ρ)

end Cert.KernelIdeal.Region

end
-- ==== Proof.Reference.lean ====
/-
  The reference: what it leaves in its result, as a function of the array its two convolution layers leave, and its frame.
-/
module

public import proofs.«01_k».proof.Proof.HostPrefix
public import proofs.«01_k».proof.Proof.Head
public import Idealize.ShloMosaic.Lib.Quiescent

@[expose] public section

set_option maxRecDepth 16384

noncomputable section

namespace Cert.ReferenceIdeal.Whole

open Cert.ReferenceIdeal Cert.ReferenceIdeal.Gen Cert.HostWalk
open Idealize.ShloMosaic Idealize.ShloMosaic.TcCoe Idealize.SL.Sem Idealize.ShloMosaic.StableHlo

variable {F : FTy → Type} [FloatOps F]

/-- The first dense layer: `x · w` plus the bias in every row. -/
def dense (x : Vec F S8x640000 .f32) (w : Vec F S640000x512 .f32) (b : Vec F S512 .f32) : FVec F S8x512 .f32 :=
  addf (Host.dotGeneral dot_S8x640000_S640000x512_S8x512_1_0_0_1_n_n none x w)
    (broadcastInDim S8x512 ![0, 1] bcast_S1x512_S8x512_0_1 (broadcastInDim S1x512 ![1] bcast_S512_S1x512_1 b))

set_option maxHeartbeats 4000000 in
/-- The reference's last lines are the two dense layers and the logarithm of the softmax. -/
theorem tail_value (W : Valuation τ sig (Elt F)) :
    after referenceTail W (Proc.devRef .tc main_v1024)
      = Cert.KernelIdeal.Region.logSoftmax (Cert.KernelIdeal.Region.logits
          (dense (W (Proc.devRef .tc main_v1015)) (W (Proc.devRef .tc main_arg6)) (W (Proc.devRef .tc main_arg7)))
          (W (Proc.devRef .tc main_arg8)) (W (Proc.devRef .tc main_arg9))) := by
  unfold Cert.KernelIdeal.Region.logSoftmax Cert.KernelIdeal.Region.centred Cert.KernelIdeal.Region.logits dense
  simp only [referenceTail, Value.ops_part20, List.drop_succ_cons, List.drop_zero, TRef.binary, TRef.nullary, TRef.unary,
    TRef.toBuf, TRef.ofBuf, cast_eq]
  after_results
  rfl

/-- The reference's contents before its last lines. -/
def entry (m : (ℓ : Loc nD τ sig) → Buf (Elt F) ℓ) (c : Dev nD) : Valuation τ sig (Elt F) := after referencePrefix (launchContents m c)

/-- Every run of the reference ends with its last lines' value in the result buffer. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD),
      r.2.mem ((c.tc : Thread nD τ).loc main_v1024) = after referenceTail (entry m c) (Proc.devRef .tc main_v1024) :=
  (θ_run defs _ _).mono (fun _ h c => (h c main_v1024).trans (by rw [reference_split, Cert.HostSim.after_two]; rfl))
    (run_seq Value.scopedRefs_eq Value.scopedSems_eq defs main (fun _ => Value.ops) Value.main_eq (fun _ => Value.ops_sub) m ρ
      fun _ => Value.ops_fresh)

/-- The reference's arguments end as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, sem_eq_zero_of_no_sems rfl _⟩) (Value.run m ρ)

end Cert.ReferenceIdeal.Whole

end
-- ==== Proof.Equation.lean ====
/-
  The equation: from memories that agree on the arguments, the idealized kernel's result is the reference's.
-/
module

public import proofs.«01_k».proof.Proof.RegionValue
public import proofs.«01_k».proof.Proof.Reference
public import Idealize.ShloMosaic.Lib.StackMember

@[expose] public section

set_option maxRecDepth 16384

noncomputable section

namespace Cert.Equation

open Idealize.ShloMosaic Idealize.ShloMosaic.TcCoe Idealize.SL.Sem Idealize.ShloMosaic.StableHlo
open Cert.HostSim Cert.KernelIdeal.Region

/-- The reference's first dense layer, entry by entry: the inner product over all 640000 columns, plus the bias. -/
theorem dense_apply (x : Vec Ideal Cert.ReferenceIdeal.S8x640000 .f32) (w : Vec Ideal Cert.ReferenceIdeal.S640000x512 .f32)
    (b : Vec Ideal Cert.ReferenceIdeal.S512 .f32) (r : Fin 8) (j : Fin 512) :
    Cert.ReferenceIdeal.Whole.dense x w b (ix2 r j) = (∑ p : Fin 640000, x (ix2 r p) * w (ix2 p j)) + b (ix1 j) := by
  pointwise [Cert.ReferenceIdeal.Whole.dense]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the ten arguments on device `c`. -/
def SameArguments (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- Two buffers of one device memory and of one number hold equal contents if two given ones do. -/
theorem agree_at {S S' : RefSig} {τ τ' : Topo} {Val : EltTy → Type} {V : Valuation τ S Val} {W : Valuation τ' S' Val}
    {a y : Ref S .tc} {b y' : Ref S' .tc} {k : ℕ} (h : Paired a b k) (hy : Paired y y' k) (hty : y.ty = y'.ty)
    (hv : HEq (V (Proc.devRef .tc y)) (W (Proc.devRef .tc y'))) :
    a.ty = b.ty ∧ HEq (V (Proc.devRef .tc a)) (W (Proc.devRef .tc b)) := by
  obtain rfl := ref_ext (h.left_space.trans hy.left_space.symm) (h.left_idx.trans hy.left_idx.symm)
  obtain rfl := ref_ext (h.right_space.trans hy.right_space.symm) (h.right_idx.trans hy.right_idx.symm)
  exact ⟨hty, hv⟩

/-- Such memories agree on the buffers numbered below 10. -/
theorem arguments_agree (c : Dev Cert.KernelIdeal.nD) (h : SameArguments m m' c) :
    Agree 10 (fun b => m (c, b)) (launchContents m' c) := by
  obtain ⟨h0, h1, h2, h3, h4, h5, h6, h7, h8, h9⟩ := h
  intro a b k hp hk
  have at_argument := fun y y' => agree_at (V := fun b => m (c, b)) (W := launchContents m' c) (y := y) (y' := y') hp
  rcases k with _ | _ | _ | _ | _ | _ | _ | _ | _ | _ | k
  exacts [at_argument Cert.KernelIdeal.main_arg0 Cert.ReferenceIdeal.main_arg0 ⟨rfl, rfl, rfl, rfl⟩ rfl (heq_of_eq h0.symm),
    at_argument Cert.KernelIdeal.main_arg1 Cert.ReferenceIdeal.main_arg1 ⟨rfl, rfl, rfl, rfl⟩ rfl (heq_of_eq h1.symm),
    at_argument Cert.KernelIdeal.main_arg2 Cert.ReferenceIdeal.main_arg2 ⟨rfl, rfl, rfl, rfl⟩ rfl (heq_of_eq h2.symm),
    at_argument Cert.KernelIdeal.main_arg3 Cert.ReferenceIdeal.main_arg3 ⟨rfl, rfl, rfl, rfl⟩ rfl (heq_of_eq h3.symm),
    at_argument Cert.KernelIdeal.main_arg4 Cert.ReferenceIdeal.main_arg4 ⟨rfl, rfl, rfl, rfl⟩ rfl (heq_of_eq h4.symm),
    at_argument Cert.KernelIdeal.main_arg5 Cert.ReferenceIdeal.main_arg5 ⟨rfl, rfl, rfl, rfl⟩ rfl (heq_of_eq h5.symm),
    at_argument Cert.KernelIdeal.main_arg6 Cert.ReferenceIdeal.main_arg6 ⟨rfl, rfl, rfl, rfl⟩ rfl (heq_of_eq h6.symm),
    at_argument Cert.KernelIdeal.main_arg7 Cert.ReferenceIdeal.main_arg7 ⟨rfl, rfl, rfl, rfl⟩ rfl (heq_of_eq h7.symm),
    at_argument Cert.KernelIdeal.main_arg8 Cert.ReferenceIdeal.main_arg8 ⟨rfl, rfl, rfl, rfl⟩ rfl (heq_of_eq h8.symm),
    at_argument Cert.KernelIdeal.main_arg9 Cert.ReferenceIdeal.main_arg9 ⟨rfl, rfl, rfl, rfl⟩ rfl (heq_of_eq h9.symm),
    absurd hk (by omega)]

/-- So the two programs' contents before their dense layers agree below buffer 1233. -/
theorem entries_agree (c : Dev Cert.KernelIdeal.nD) (h : SameArguments m m' c) :
    Agree 1233 (V0 m c) (Cert.ReferenceIdeal.Whole.entry m' c) :=
  Cert.HostWalk.prefix_sim _ _ (arguments_agree m m' c h)

/-- The region's result is the reference's first dense layer. -/
theorem dense_eq (c : Dev Cert.KernelIdeal.nD) (h : SameArguments m m' c) :
    ((dats m 0 c).arrAt 3 Cert.KernelIdeal.cfg0.N : Vec Ideal Cert.KernelIdeal.S8x512 .f32)
      = Cert.ReferenceIdeal.Whole.dense
          (Cert.ReferenceIdeal.Whole.entry m' c (Proc.devRef .tc Cert.ReferenceIdeal.main_v1015))
          (Cert.ReferenceIdeal.Whole.entry m' c (Proc.devRef .tc Cert.ReferenceIdeal.main_arg6))
          (Cert.ReferenceIdeal.Whole.entry m' c (Proc.devRef .tc Cert.ReferenceIdeal.main_arg7)) := by
  have e := entries_agree m m' c h
  have hx : leftArray m c = Cert.ReferenceIdeal.Whole.entry m' c (Proc.devRef .tc Cert.ReferenceIdeal.main_v1015) :=
    eq_of_heq (e.eq (k := 1232) (a := Cert.KernelIdeal.main_v1015) (b := Cert.ReferenceIdeal.main_v1015) ⟨rfl, rfl, rfl, rfl⟩ (by decide))
  have hw : rightArray m c = Cert.ReferenceIdeal.Whole.entry m' c (Proc.devRef .tc Cert.ReferenceIdeal.main_arg6) :=
    eq_of_heq (e.eq (k := 6) (a := Cert.KernelIdeal.main_arg6) (b := Cert.ReferenceIdeal.main_arg6) ⟨rfl, rfl, rfl, rfl⟩ (by decide))
  have hb : biasArray m c = Cert.ReferenceIdeal.Whole.entry m' c (Proc.devRef .tc Cert.ReferenceIdeal.main_arg7) :=
    eq_of_heq (e.eq (k := 7) (a := Cert.KernelIdeal.main_arg7) (b := Cert.ReferenceIdeal.main_arg7) ⟨rfl, rfl, rfl, rfl⟩ (by decide))
  rw [← hx, ← hw, ← hb, region_value]
  funext i
  obtain ⟨r, j, rfl⟩ : ∃ (r : Fin 8) (j : Fin 512), i = ix2 r j := ⟨i 0, i 1, eq_ix2 i⟩
  exact (add_comm _ _).trans (dense_apply _ _ _ r j).symm

/-- The idealized kernel's result is the reference's. -/
theorem result_eq (c : Dev Cert.KernelIdeal.nD) (h : SameArguments m m' c) :
    after Cert.HostWalk.referenceTail (Cert.ReferenceIdeal.Whole.entry m' c) (Proc.devRef .tc Cert.ReferenceIdeal.main_v1024)
      = result m c := by
  have e := entries_agree m m' c h
  have h8 : (m ((c.tc : Thread Cert.KernelIdeal.nD Cert.KernelIdeal.τ).loc Cert.KernelIdeal.main_arg8) : Vec Ideal Cert.KernelIdeal.S512x6 .f32)
      = Cert.ReferenceIdeal.Whole.entry m' c (Proc.devRef .tc Cert.ReferenceIdeal.main_arg8) :=
    (V_arg m c Cert.KernelIdeal.main_arg8 (by decide)).symm.trans
      (eq_of_heq (e.eq (k := 8) (a := Cert.KernelIdeal.main_arg8) (b := Cert.ReferenceIdeal.main_arg8) ⟨rfl, rfl, rfl, rfl⟩ (by decide)))
  have h9 : (m ((c.tc : Thread Cert.KernelIdeal.nD Cert.KernelIdeal.τ).loc Cert.KernelIdeal.main_arg9) : Vec Ideal Cert.KernelIdeal.S6 .f32)
      = Cert.ReferenceIdeal.Whole.entry m' c (Proc.devRef .tc Cert.ReferenceIdeal.main_arg9) :=
    (V_arg m c Cert.KernelIdeal.main_arg9 (by decide)).symm.trans
      (eq_of_heq (e.eq (k := 9) (a := Cert.KernelIdeal.main_arg9) (b := Cert.ReferenceIdeal.main_arg9) ⟨rfl, rfl, rfl, rfl⟩ (by decide)))
  rw [Cert.ReferenceIdeal.Whole.tail_value, ← dense_eq m m' c h, ← h8, ← h9]
  rfl

end Cert.Equation

end
-- ==== Proof.lean ====
/-
  The five claims, assembled: the frames of the compiled kernel, of the idealized kernel and of the reference; the
  idealization, which rewrote nothing; and the equality of the idealized kernel's result with the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.FrameBits
public import proofs.«01_k».proof.Proof.Equation
public import Idealize.ShloMosaic.Adequacy
public import Idealize.ShloMosaic.Init

@[expose] public section

noncomputable section

namespace Cert.Proof

open Idealize.ShloMosaic Idealize.SL.Sem

/-- The idealized kernel and the reference, from memories that agree on the arguments, end with equal results and with
    their arguments unchanged. -/
theorem algebraic : algebraic_KernelIdeal_ReferenceIdeal (hKernelIdeal := Cert.KernelIdeal.Gen.facts)
    (hReferenceIdeal := Cert.ReferenceIdeal.Gen.facts) := fun m g m' g' _ hargs =>
  ⟨Cert.KernelIdeal.Region.result m,
    θ_run_and (Cert.KernelIdeal.Region.run_value m g) (Cert.KernelIdeal.Region.unchanged m g) |> (θ_run _ _ _).mono fun _ h c =>
      ⟨h.1 c, h.2 c⟩,
    θ_run_and (Cert.ReferenceIdeal.Whole.run_all m' g') (Cert.ReferenceIdeal.Whole.frame m' g') |> (θ_run _ _ _).mono fun _ h c =>
      ⟨(h.1 c).trans (Cert.Equation.result_eq m m' c (hargs c)), h.2.1 c⟩⟩

/-- The five claims. -/
theorem claim : Cert.Claim :=
  ⟨Cert.Kernel.Gen.facts, Cert.KernelIdeal.Gen.facts, Cert.ReferenceIdeal.Gen.facts,
    Cert.KernelIdeal.Region.compiled_frame,
    Cert.KernelIdeal.Region.frameAt Ideal,
    fun m g _ => Cert.ReferenceIdeal.Whole.frame m g,
    trivial,
    algebraic⟩

end Cert.Proof

end
